-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_setup [hPre_setup : Cert.Pre_setup.Facts] (m : (ℓ : Loc Cert.KernelIdeal.nD Cert.KernelIdeal.τ Cert.KernelIdeal.sig) → Buf (Elt Ideal) ℓ) : Prop :=
  ∀ c : Dev Cert.KernelIdeal.nD,
    (Cert.Pre_setup.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_setup.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_setup [hPre_setup : Cert.Pre_setup.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_setup.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_setup.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_setup [hKernelIdeal : Cert.KernelIdeal.Facts] [hPre_setup : Cert.Pre_setup.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_setup m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_setup [hReferenceIdeal : Cert.ReferenceIdeal.Facts] [hPre_setup : Cert.Pre_setup.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_setup m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.named_const.Statement Cert.KernelIdeal.κ "red" .f32 0x40BF5C29#32 ((50163875 / 8388608 : ℝ) : EReal)
  ∧ IdealRules.named_const.Statement Cert.KernelIdeal.κ "green" .f32 0x413BD70A#32 ((24620565 / 2097152 : ℝ) : EReal)
  ∧ IdealRules.named_const.Statement Cert.KernelIdeal.κ "blue" .f32 0x4011EB85#32 ((76504105 / 33554432 : ℝ) : EReal)

def algebraic_KernelIdeal_ReferenceIdeal_pre_setup [hKernelIdeal : Cert.KernelIdeal.Facts] [hReferenceIdeal : Cert.ReferenceIdeal.Facts] [hPre_setup : Cert.Pre_setup.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_setup m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_setup : Cert.Pre_setup.Facts),
    quiescent_Kernel (hKernel := hKernel)
    ∧ quiescent_KernelIdeal (hKernelIdeal := hKernelIdeal)
    ∧ quiescent_KernelIdeal_pre_setup (hKernelIdeal := hKernelIdeal) (hPre_setup := hPre_setup)
    ∧ quiescent_ReferenceIdeal (hReferenceIdeal := hReferenceIdeal)
    ∧ quiescent_ReferenceIdeal_pre_setup (hReferenceIdeal := hReferenceIdeal) (hPre_setup := hPre_setup)
    ∧ preserves_Kernel_KernelIdeal
    ∧ algebraic_KernelIdeal_ReferenceIdeal_pre_setup (hKernelIdeal := hKernelIdeal) (hReferenceIdeal := hReferenceIdeal) (hPre_setup := hPre_setup)
-- ==== Pre_setup.lean ====
abbrev S16x3x512x512 : Shape := ⟨4, ![16, 3, 512, 512]⟩
abbrev S257x512x512 : Shape := ⟨3, ![257, 512, 512]⟩
abbrev S257 : Shape := ⟨1, ![257]⟩
abbrev S512x512 : Shape := ⟨2, ![512, 512]⟩
abbrev S_ : Shape := ⟨0, ![]⟩
abbrev S1x512x512 : Shape := ⟨3, ![1, 512, 512]⟩

class Facts : Prop where
  bcast_S_S512x512 : S_.BroadcastsInDim S512x512 (![] : Fin 0 → Fin S512x512.rank)
  bcast_S512x512_S1x512x512_1_2 : S512x512.BroadcastsInDim S1x512x512 (![1, 2] : Fin 2 → Fin S1x512x512.rank)
  bcast_S1x512x512_S257x512x512_0_1_2 : S1x512x512.BroadcastsInDim S257x512x512 (![0, 1, 2] : Fin 3 → Fin S257x512x512.rank)
  bcast_S_S257x512x512 : S_.BroadcastsInDim S257x512x512 (![] : Fin 0 → Fin S257x512x512.rank)
  reducesTo_S257x512x512_S257_d1_2 : S257x512x512.ReducesTo [1, 2] S257
  h_S_ : 0 < S_.numel
  bcast_S_S257 : S_.BroadcastsInDim S257 (![] : Fin 0 → Fin S257.rank)

variable [Facts]

def fn_where {F : FTy → Type} [FloatOps F] (arg0 : IVec S512x512 1) (arg1 : IVec S512x512 32) (arg2 : IVec S_ 32) : IVec S512x512 32 :=
  let v0 : IVec S_ 32 := id arg2
  let v1 : IVec S512x512 32 := broadcastInDim S512x512 ![] bcast_S_S512x512 v0
  let v2 : IVec S512x512 32 := select arg0 arg1 v1
  v2

def fn_where_0 {F : FTy → Type} [FloatOps F] (arg0 : IVec S257x512x512 1) (arg1 : FVec F S_ .f32) (arg2 : FVec F S_ .f32) : FVec F S257x512x512 .f32 :=
  let v0 : FVec F S257x512x512 .f32 := broadcastInDim S257x512x512 ![] bcast_S_S257x512x512 arg1
  let v1 : FVec F S257x512x512 .f32 := broadcastInDim S257x512x512 ![] bcast_S_S257x512x512 arg2
  let v2 : FVec F S257x512x512 .f32 := select arg0 v0 v1
  v2

def fn_part1 {F : FTy → Type} [FloatOps F] (main_arg1 : FVec F S257x512x512 .f32) (main_arg2 : FVec F S257 .f32) (main_v5 : IVec S512x512 32) (main_v14 : IVec S512x512 32) (main_v16 : IVec S512x512 1) (main_c_5 : IVec S_ 32) : IVec S257x512x512 1 × IVec S257 1 :=
  let main_v17 : IVec S512x512 32 := broadcastInDim S512x512 ![] bcast_S_S512x512 main_c_5
  let main_v18 : IVec S512x512 1 := cmpi .sge main_v5 main_v17
  let main_v19 : IVec S512x512 1 := andi main_v16 main_v18
  let main_c_6 : IVec S_ 32 := constantI S_ 32 256#32
  let main_v20 : IVec S512x512 32 := fn_where (F := F) main_v19 main_v14 main_c_6
  let main_v21 : IVec S257x512x512 32 := iotaInDim S257x512x512 32 0
  let main_v22 : IVec S1x512x512 32 := broadcastInDim S1x512x512 ![1, 2] bcast_S512x512_S1x512x512_1_2 main_v20
  let main_v23 : IVec S257x512x512 32 := broadcastInDim S257x512x512 ![0, 1, 2] bcast_S1x512x512_S257x512x512_0_1_2 main_v22
  let main_v24 : IVec S257x512x512 1 := cmpi .eq main_v23 main_v21
  let main_cst : FVec F S_ .f32 := constant S_ .f32 0x3F800000#32
  let main_cst_7 : FVec F S_ .f32 := constant S_ .f32 0x00000000#32
  let main_v25 : FVec F S257x512x512 .f32 := fn_where_0 (F := F) main_v24 main_cst main_cst_7
  let main_v26 : FVec F S257x512x512 .f32 := id main_v25
  let main_v27 : IVec S257x512x512 1 := cmpf .oeq main_arg1 main_v26
  let main_cst_8 : FVec F S_ .f32 := constant S_ .f32 0x00000000#32
  let main_v28 : FVec F S257 .f32 := (fun x v => Host.reduceAdd x v reducesTo_S257x512x512_S257_d1_2 h_S_) main_arg1 main_cst_8
  let main_cst_9 : FVec F S_ .f32 := constant S_ .f32 0x322BCC77#32
  let main_v29 : FVec F S257 .f32 := broadcastInDim S257 ![] bcast_S_S257 main_cst_9
  let main_v30 : FVec F S257 .f32 := maximumf main_v28 main_v29
  let main_v31 : IVec S257 1 := cmpf .oeq main_arg2 main_v30
  (main_v27, main_v31)

def fn {F : FTy → Type} [FloatOps F] (main_arg0 : FVec F S16x3x512x512 .f32) (main_arg1 : FVec F S257x512x512 .f32) (main_arg2 : FVec F S257 .f32) : IVec S257x512x512 1 × IVec S257 1 :=
  let main_v0 : IVec S512x512 32 := iotaInDim S512x512 32 0
  let main_c : IVec S_ 32 := constantI S_ 32 1#32
  let main_v1 : IVec S512x512 32 := broadcastInDim S512x512 ![] bcast_S_S512x512 main_c
  let main_v2 : IVec S512x512 32 := subi main_v0 main_v1
  let main_v3 : IVec S512x512 32 := iotaInDim S512x512 32 1
  let main_c_0 : IVec S_ 32 := constantI S_ 32 1#32
  let main_v4 : IVec S512x512 32 := broadcastInDim S512x512 ![] bcast_S_S512x512 main_c_0
  let main_v5 : IVec S512x512 32 := subi main_v3 main_v4
  let main_v6 : IVec S512x512 32 := minsi main_v2 main_v5
  let main_c_1 : IVec S_ 32 := constantI S_ 32 510#32
  let main_v7 : IVec S512x512 32 := broadcastInDim S512x512 ![] bcast_S_S512x512 main_c_1
  let main_v8 : IVec S512x512 32 := subi main_v7 main_v2
  let main_c_2 : IVec S_ 32 := constantI S_ 32 510#32
  let main_v9 : IVec S512x512 32 := broadcastInDim S512x512 ![] bcast_S_S512x512 main_c_2
  let main_v10 : IVec S512x512 32 := subi main_v9 main_v5
  let main_v11 : IVec S512x512 32 := minsi main_v8 main_v10
  let main_v12 : IVec S512x512 32 := minsi main_v6 main_v11
  let main_c_3 : IVec S_ 32 := constantI S_ 32 255#32
  let main_v13 : IVec S512x512 32 := broadcastInDim S512x512 ![] bcast_S_S512x512 main_c_3
  let main_v14 : IVec S512x512 32 := subi main_v13 main_v12
  let main_c_4 : IVec S_ 32 := constantI S_ 32 0#32
  let main_v15 : IVec S512x512 32 := broadcastInDim S512x512 ![] bcast_S_S512x512 main_c_4
  let main_v16 : IVec S512x512 1 := cmpi .sge main_v2 main_v15
  let main_c_5 : IVec S_ 32 := constantI S_ 32 0#32
  fn_part1 (F := F) main_arg1 main_arg2 main_v5 main_v14 main_v16 main_c_5
-- ==== Kernel.lean ====
abbrev S16x3x512x512 : Shape := ⟨4, ![16, 3, 512, 512]⟩
abbrev S257x512x512 : Shape := ⟨3, ![257, 512, 512]⟩
abbrev S257 : Shape := ⟨1, ![257]⟩
abbrev S2x8x384 : Shape := ⟨3, ![2, 8, 384]⟩
abbrev S8x3x128x512 : Shape := ⟨4, ![8, 3, 128, 512]⟩
abbrev S1x8x384 : Shape := ⟨3, ![1, 8, 384]⟩
abbrev S8x1x128x512 : Shape := ⟨4, ![8, 1, 128, 512]⟩
abbrev S8x128x512 : Shape := ⟨3, ![8, 128, 512]⟩
abbrev S128x512 : Shape := ⟨2, ![128, 512]⟩
abbrev S1x128x512 : Shape := ⟨3, ![1, 128, 512]⟩
abbrev S8x128 : Shape := ⟨2, ![8, 128]⟩
abbrev S8x512 : Shape := ⟨2, ![8, 512]⟩
abbrev S128x384 : Shape := ⟨2, ![128, 384]⟩
abbrev S8x384 : Shape := ⟨2, ![8, 384]⟩
abbrev S512x384 : Shape := ⟨2, ![512, 384]⟩
abbrev S16x257 : Shape := ⟨2, ![16, 257]⟩
abbrev S16x384 : Shape := ⟨2, ![16, 384]⟩
abbrev S1x16x384 : Shape := ⟨3, ![1, 16, 384]⟩
abbrev S1 : Shape := ⟨1, ![1]⟩
abbrev S1x1x1 : Shape := ⟨3, ![1, 1, 1]⟩

abbrev nBuf : Space → Nat
  | .hbm => 5
  | .vmem => 6
  | .smem => 0
  | _ => 0

abbrev bufTy : (tb : Table) → Fin (tcTables nBuf tb) → BufTy
  | .hbm, ⟨0, _⟩ => ⟨S16x3x512x512, .f32⟩
  | .hbm, ⟨1, _⟩ => ⟨S257x512x512, .f32⟩
  | .hbm, ⟨2, _⟩ => ⟨S257, .f32⟩
  | .hbm, ⟨3, _⟩ => ⟨S2x8x384, .f32⟩
  | .hbm, ⟨4, _⟩ => ⟨S16x257, .f32⟩
  | .local _ .vmem, ⟨0, _⟩ => ⟨S8x3x128x512, .f32⟩
  | .local _ .vmem, ⟨1, _⟩ => ⟨S8x3x128x512, .f32⟩
  | .local _ .vmem, ⟨2, _⟩ => ⟨S1x8x384, .f32⟩
  | .local _ .vmem, ⟨3, _⟩ => ⟨S1x8x384, .f32⟩
  | .local _ .vmem, ⟨4, _⟩ => ⟨S2x8x384, .f32⟩
  | .local _ .vmem, ⟨5, _⟩ => ⟨S16x257, .f32⟩
  | _, _ => ⟨S16x3x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc1_stg0_0 : Ref sig .tc := ⟨.vmem, 4, rfl⟩
abbrev cc1_stg1_0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc1_sem0_0 : DmaSem sig := 4
abbrev cc1_sem1_0 : DmaSem sig := 5

abbrev nD : Nat := 1
abbrev τ : Topo := Topo.v7x

variable {F : FTy → Type} [FloatOps F]

abbrev grid0 : Pipeline.Grid := ⟨2, ![2, 4], ![false, false]⟩

def k0_cond1 (i : grid0.Coords) : BitVec 1 :=
  let arg1 : BitVec 32 := BitVec.ofNat 32 (i 1).val
  let c0_i32_13 : BitVec 32 := 0#32
  let v63 : BitVec 1 := Scalar.cmpi .eq arg1 c0_i32_13
  let v64 : BitVec 32 := Scalar.extui v63
  let c0_i32_14 : BitVec 32 := 0#32
  let v65 : BitVec 1 := Scalar.cmpi .ne v64 c0_i32_14
  v65

def k0_cond2 (i : grid0.Coords) : BitVec 1 :=
  let arg1 : BitVec 32 := BitVec.ofNat 32 (i 1).val
  let c0_i32_15 : BitVec 32 := 0#32
  let v66 : BitVec 1 := Scalar.cmpi .sgt arg1 c0_i32_15
  let v67 : BitVec 32 := Scalar.extui v66
  let c0_i32_16 : BitVec 32 := 0#32
  let v68 : BitVec 1 := Scalar.cmpi .ne v67 c0_i32_16
  v68

def k0_cond3 (i : grid0.Coords) : BitVec 1 :=
  let arg1 : BitVec 32 := BitVec.ofNat 32 (i 1).val
  let c3_i32 : BitVec 32 := 3#32
  let v69 : BitVec 1 := Scalar.cmpi .eq arg1 c3_i32
  let v70 : BitVec 32 := Scalar.extui v69
  let c0_i32_17 : BitVec 32 := 0#32
  let v71 : BitVec 1 := Scalar.cmpi .ne v70 c0_i32_17
  v71

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x3x128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev grid1 : Pipeline.Grid := .none

abbrev stage1_0 : Fin 1 → Memref sig .tc .vmem S2x8x384 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S16x257 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
-- ==== KernelIdeal.lean ====
variable {F : FTy → Type} [FloatOps F] [Named F]
def κ : String → Option EReal := fun
  | "blue" => some ((76504105 / 33554432 : ℝ) : EReal)
  | "green" => some ((24620565 / 2097152 : ℝ) : EReal)
  | "red" => some ((50163875 / 8388608 : ℝ) : EReal)
  | _ => none
-- ==== ReferenceIdeal.lean ====
abbrev S16x3x512x512 : Shape := ⟨4, ![16, 3, 512, 512]⟩
abbrev S257x512x512 : Shape := ⟨3, ![257, 512, 512]⟩
abbrev S257 : Shape := ⟨1, ![257]⟩
abbrev S16x1x512x512 : Shape := ⟨4, ![16, 1, 512, 512]⟩
abbrev S16x512x512 : Shape := ⟨3, ![16, 512, 512]⟩
abbrev S_ : Shape := ⟨0, ![]⟩
abbrev S16x257 : Shape := ⟨2, ![16, 257]⟩
abbrev S1x257 : Shape := ⟨2, ![1, 257]⟩

abbrev nBuf : Space → Nat
  | .hbm => 36
  | .vmem => 0
  | .smem => 0
  | _ => 0

abbrev bufTy : (tb : Table) → Fin (tcTables nBuf tb) → BufTy
  | .hbm, ⟨0, _⟩ => ⟨S16x3x512x512, .f32⟩
  | .hbm, ⟨1, _⟩ => ⟨S257x512x512, .f32⟩
  | .hbm, ⟨2, _⟩ => ⟨S257, .f32⟩
  | .hbm, ⟨3, _⟩ => ⟨S16x1x512x512, .f32⟩
  | .hbm, ⟨4, _⟩ => ⟨S16x512x512, .f32⟩
  | .hbm, ⟨5, _⟩ => ⟨S_, .f32⟩
  | .hbm, ⟨6, _⟩ => ⟨S16x512x512, .f32⟩
  | .hbm, ⟨7, _⟩ => ⟨S16x512x512, .f32⟩
  | .hbm, ⟨8, _⟩ => ⟨S16x1x512x512, .f32⟩
  | .hbm, ⟨9, _⟩ => ⟨S16x512x512, .f32⟩
  | .hbm, ⟨10, _⟩ => ⟨S_, .f32⟩
  | .hbm, ⟨11, _⟩ => ⟨S16x512x512, .f32⟩
  | .hbm, ⟨12, _⟩ => ⟨S16x512x512, .f32⟩
  | .hbm, ⟨13, _⟩ => ⟨S16x512x512, .f32⟩
  | .hbm, ⟨14, _⟩ => ⟨S16x1x512x512, .f32⟩
  | .hbm, ⟨15, _⟩ => ⟨S16x512x512, .f32⟩
  | .hbm, ⟨16, _⟩ => ⟨S_, .f32⟩
  | .hbm, ⟨17, _⟩ => ⟨S16x512x512, .f32⟩
  | .hbm, ⟨18, _⟩ => ⟨S16x512x512, .f32⟩
  | .hbm, ⟨19, _⟩ => ⟨S16x512x512, .f32⟩
  | .hbm, ⟨20, _⟩ => ⟨S_, .f32⟩
  | .hbm, ⟨21, _⟩ => ⟨S16x512x512, .f32⟩
  | .hbm, ⟨22, _⟩ => ⟨S16x512x512, .f32⟩
  | .hbm, ⟨23, _⟩ => ⟨S16x257, .f32⟩
  | .hbm, ⟨24, _⟩ => ⟨S1x257, .f32⟩
  | .hbm, ⟨25, _⟩ => ⟨S16x257, .f32⟩
  | .hbm, ⟨26, _⟩ => ⟨S16x257, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S16x257, .f32⟩
  | .hbm, ⟨32, _⟩ => ⟨S16x257, .f32⟩
  | .hbm, ⟨33, _⟩ => ⟨S_, .f32⟩
  | .hbm, ⟨34, _⟩ => ⟨S16x257, .f32⟩
  | .hbm, ⟨35, _⟩ => ⟨S16x257, .f32⟩
  | _, _ => ⟨S16x3x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_3 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩

abbrev nD : Nat := 1
abbrev τ : Topo := Topo.v7x

variable {F : FTy → Type} [FloatOps F]
-- ==== Proof.KernelIdealRun.Cases.lean ====
/- The accumulating call's body, case by case: on the first chunk of rows it stores the chunk's ring sums, on a later
   chunk it adds them to what the block holds, and on the last it also divides by the rings' sizes. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.TableIdle
public import Idealize.ShloMosaic.Lib.Pipeline.ValueKit.Basic
public import Idealize.ShloMosaic.Lib.Pipeline.ValueKit.Acc
public import Idealize.ShloMosaic.Lib.Ring
public import Idealize.ShloMosaic.Lib.Tactic
public import Idealize.ShloMosaic.Lib.WordCmp

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## When each branch runs -/

/-- The first branch runs on an image half's first chunk of rows, -/
theorem first_iff (t : Fin grid0.N) : k0_cond1 (grid0.coords t) = 1#1 ↔ t.val % 4 = 0 := by
  revert t; decide +kernel

/-- the second on every later chunk, -/
theorem later_iff (t : Fin grid0.N) : k0_cond2 (grid0.coords t) = 1#1 ↔ 1 ≤ t.val % 4 := by
  revert t; decide +kernel

/-- and the third on the last one. -/
theorem last_iff (t : Fin grid0.N) : k0_cond3 (grid0.coords t) = 1#1 ↔ t.val % 4 = 3 := by
  revert t; decide +kernel

/-! ## What the body leaves in the output block -/

/-- One chunk's ring sums: what the body stores on the first chunk. -/
def chunk (i : grid0.Coords) (x : Vec F S8x3x128x512 .f32) : Vec F S1x8x384 .f32 :=
  k0_pay2 (k0_pay7 i x) (k0_pay8 i x) (iota .tc S128x384 32 [1] iota_S128x384_d1_w32)
    (iota .tc S128x384 32 [0] iota_S128x384_d0_w32) (k0_pay9 i)

/-- A chunk's ring sums added to what the block held: what the body stores on a later chunk. -/
def added (i : grid0.Coords) (x : Vec F S8x3x128x512 .f32) (y : Vec F S1x8x384 .f32) : Vec F S1x8x384 .f32 :=
  k0_pay3 (k0_pay7 i x) (k0_pay8 i x) (iota .tc S128x384 32 [1] iota_S128x384_d1_w32)
    (iota .tc S128x384 32 [0] iota_S128x384_d0_w32) (k0_pay9 i) y

/-- A view written through one rectangle that is the whole block reads the last payload, whatever was written before. -/
theorem read_whole {κ : Kind} {sp : Space} (v : View sig κ sp S1x8x384 .f32) (f : v.ty.Contents (Elt F))
    (w : Vec F S1x8x384 .f32) (L : List (View.Piece (Elt F) S1x8x384 .f32)) :
    v.read (Elt F) (v.writes (Elt F) f
      (⟨Rect.unit (s := S1x8x384) ![0, 0, 0] S1x8x384.size inb_S1x8x384_S1x8x384_0_0_0, w⟩ :: L)) = w :=
  (View.read_writes_eq_canon _ _ _ fun y => by
    obtain ⟨p, hp, hy⟩ := View.cover_of_tiled
      [(⟨Rect.unit (s := S1x8x384) ![0, 0, 0] S1x8x384.size inb_S1x8x384_S1x8x384_0_0_0, w⟩ :
        View.Piece (Elt F) S1x8x384 .f32)] S1x8x384.size (by rfl) y
    exact ⟨p, List.mem_cons.mpr (.inl (List.mem_singleton.mp hp)), hy⟩).trans
    (View.canon_cons_unit_lit _ _ _ (by decide))

section
variable (c : Dev nD) (E : Set ℕ) (i : grid0.Coords)
  (arg2 : Memref sig .tc .vmem S8x3x128x512 .f32) (harg2 : arg2.IsWhole)
  (arg3 : Memref sig .tc .vmem S1x8x384 .f32) (harg3 : arg3.IsWhole) (x : Vec F S8x3x128x512 .f32)

set_option maxHeartbeats 1000000 in
/-- On the first chunk the body leaves the chunk's sums, whatever the block held. -/
theorem body_first (h1 : k0_cond1 i = 1#1) (h2 : ¬k0_cond2 i = 1#1) (h3 : ¬k0_cond3 i = 1#1) (K : PUnit → sProp 𝕄) :
    iprop(owns (c : Thread nD τ) arg2 fullShare x ∗ (∃ d, owns (c : Thread nD τ) arg3 fullShare d)
        ∗ (iprop(owns (c : Thread nD τ) arg2 fullShare x ∗ owns (c : Thread nD τ) arg3 fullShare (chunk i x)) -∗ K ⟨⟩))
      ⊢ wp frame (wpE (defs₀ (F := F)) Variants.none c none) E (cc0__accum_kernel i arg2 harg2 arg3 harg3) K := by
  simp only [cc0__accum_kernel_eq_skeleton]; unfold cc0__accum_kernel_skel
  simp only [k0_part1_eq_skeleton]
  unfold owns
  iintro ⟨⟨%f0, %hf0, H0⟩, ⟨%d1, %f1, -, H1⟩, Hk⟩
  subst hf0
  sl_exec (disch := first | sl_exact h1 | sl_exact h2 | sl_exact h3)
  sl_step
  iapply Hk
  isplitl [H0]
  · iexists f0; isplitr; · ipureintro; rfl
    iexact H0
  iexists _; isplitr
  swap; · iexact H1
  ipureintro
  refine (read_whole _ _ _ _).trans ?_
  have e := View.ld_unit_lit (Val := Elt F) inb_S8x3x128x512_S8x3x128x512_0_0_0_0 (arg2.view.read (Elt F) f0) (by decide)
  unfold chunk
  exact congrArg (fun z => k0_pay2 (k0_pay7 i z) (k0_pay8 i z) _ _ _) e

set_option maxHeartbeats 1000000 in
/-- On a chunk that is neither first nor last it adds the chunk's sums. -/
theorem body_later (h1 : ¬k0_cond1 i = 1#1) (h2 : k0_cond2 i = 1#1) (h3 : ¬k0_cond3 i = 1#1)
    (y : Vec F S1x8x384 .f32) (K : PUnit → sProp 𝕄) :
    iprop(owns (c : Thread nD τ) arg2 fullShare x ∗ owns (c : Thread nD τ) arg3 fullShare y
        ∗ (iprop(owns (c : Thread nD τ) arg2 fullShare x ∗ owns (c : Thread nD τ) arg3 fullShare (added i x y)) -∗ K ⟨⟩))
      ⊢ wp frame (wpE (defs₀ (F := F)) Variants.none c none) E (cc0__accum_kernel i arg2 harg2 arg3 harg3) K := by
  simp only [cc0__accum_kernel_eq_skeleton]; unfold cc0__accum_kernel_skel
  simp only [k0_part1_eq_skeleton]
  unfold owns
  iintro ⟨⟨%f0, %hf0, H0⟩, ⟨%f1, %hf1, H1⟩, Hk⟩
  subst hf0; subst hf1
  sl_exec (disch := first | sl_exact h1 | sl_exact h2 | sl_exact h3)
  sl_step
  iapply Hk
  isplitl [H0]
  · iexists f0; isplitr; · ipureintro; rfl
    iexact H0
  iexists _; isplitr
  swap; · iexact H1
  ipureintro
  refine (read_whole _ _ _ _).trans ?_
  have e := View.ld_unit_lit (Val := Elt F) inb_S8x3x128x512_S8x3x128x512_0_0_0_0 (arg2.view.read (Elt F) f0) (by decide)
  have e' := View.ld_unit_lit (Val := Elt F) inb_S1x8x384_S1x8x384_0_0_0 (arg3.view.read (Elt F) f1) (by decide)
  unfold added
  exact congrArg₂ (fun z w => k0_pay3 (k0_pay7 i z) (k0_pay8 i z) _ _ _ w) e e'

set_option maxHeartbeats 1000000 in
/-- On the last chunk it adds the chunk's sums and divides by the rings' sizes. -/
theorem body_last (h1 : ¬k0_cond1 i = 1#1) (h2 : k0_cond2 i = 1#1) (h3 : k0_cond3 i = 1#1)
    (y : Vec F S1x8x384 .f32) (K : PUnit → sProp 𝕄) :
    iprop(owns (c : Thread nD τ) arg2 fullShare x ∗ owns (c : Thread nD τ) arg3 fullShare y
        ∗ (iprop(owns (c : Thread nD τ) arg2 fullShare x ∗ owns (c : Thread nD τ) arg3 fullShare (k0_pay4 (added i x y))) -∗ K ⟨⟩))
      ⊢ wp frame (wpE (defs₀ (F := F)) Variants.none c none) E (cc0__accum_kernel i arg2 harg2 arg3 harg3) K := by
  simp only [cc0__accum_kernel_eq_skeleton]; unfold cc0__accum_kernel_skel
  simp only [k0_part1_eq_skeleton]
  unfold owns
  iintro ⟨⟨%f0, %hf0, H0⟩, ⟨%f1, %hf1, H1⟩, Hk⟩
  subst hf0; subst hf1
  sl_exec (disch := first | sl_exact h1 | sl_exact h2 | sl_exact h3)
  sl_step
  iapply Hk
  isplitl [H0]
  · iexists f0; isplitr; · ipureintro; rfl
    iexact H0
  iexists _; isplitr
  swap; · iexact H1
  ipureintro
  refine (read_whole _ _ _ _).trans ?_
  have e := View.ld_unit_lit (Val := Elt F) inb_S8x3x128x512_S8x3x128x512_0_0_0_0 (arg2.view.read (Elt F) f0) (by decide)
  have e' := View.ld_unit_lit (Val := Elt F) inb_S1x8x384_S1x8x384_0_0_0 (arg3.view.read (Elt F) f1) (by decide)
  refine congrArg k0_pay4 ((View.readCov_unit_lit _ _ _ (by decide)).trans ?_)
  unfold added
  exact congrArg₂ (fun z w => k0_pay3 (k0_pay7 i z) (k0_pay8 i z) _ _ _ w) e e'

end

end Cert.KernelIdeal.Run

end
-- ==== Proof.KernelIdealRun.Accum.lean ====
/- The accumulating call at every grid point: what its output block holds after each point, and that the body gets from
   one to the next. -/
module

public import proofs.«01_k».proof.Proof.KernelIdealRun.Cases

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

-- the TensorCore's buffers when the call is entered
variable (V : (c : Dev nD) → (b : Ref sig .tc) → Buf (Elt F) ((c : Thread nD τ).loc b))

/-! ## What the buffers hold -/

/-- Window `w`'s block at point `t`, read off its array as the call finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The output block after point `n`: the first chunk's sums, then each later chunk's added, then divided. -/
def held (c : Dev nD) : (n : ℕ) → n < cfg0.N → Vec F S1x8x384 .f32
  | 0, hn => chunk (grid0.coords ⟨0, hn⟩) (iblk0 V c 0 ⟨0, hn⟩)
  | n + 1, hn =>
    if (n + 1) % 4 = 0 then chunk (grid0.coords ⟨n + 1, hn⟩) (iblk0 V c 0 ⟨n + 1, hn⟩)
    else if (n + 1) % 4 = 3 then
      k0_pay4 (added (grid0.coords ⟨n + 1, hn⟩) (iblk0 V c 0 ⟨n + 1, hn⟩) (held c n (Nat.lt_of_succ_lt hn)))
    else added (grid0.coords ⟨n + 1, hn⟩) (iblk0 V c 0 ⟨n + 1, hn⟩) (held c n (Nat.lt_of_succ_lt hn))

/-- After a first chunk the block holds that chunk's sums. -/
theorem held_first (c : Dev nD) (t : Fin cfg0.N) (h : t.val % 4 = 0) :
    held V c t.val t.isLt = chunk (grid0.coords t) (iblk0 V c 0 t) := by
  obtain ⟨n, hn⟩ := t
  cases n with
  | zero => rfl
  | succ n => exact if_pos h

/-- After a middle chunk it holds the point before's sums with this chunk's added. -/
theorem held_later (c : Dev nD) (t : Fin cfg0.N) (h : ¬t.val % 4 = 0) (h' : ¬t.val % 4 = 3) :
    held V c t.val t.isLt
      = added (grid0.coords t) (iblk0 V c 0 t) (held V c (t.val - 1) (Nat.lt_of_le_of_lt (Nat.sub_le _ _) t.isLt)) := by
  obtain ⟨n, hn⟩ := t
  cases n with
  | zero => exact absurd (Nat.zero_mod _) h
  | succ n => exact (if_neg h).trans (if_neg h')

/-- After the last chunk it holds the same divided by the rings' sizes. -/
theorem held_last (c : Dev nD) (t : Fin cfg0.N) (h : t.val % 4 = 3) :
    held V c t.val t.isLt
      = k0_pay4 (added (grid0.coords t) (iblk0 V c 0 t) (held V c (t.val - 1) (Nat.lt_of_le_of_lt (Nat.sub_le _ _) t.isLt))) := by
  obtain ⟨n, hn⟩ := t
  cases n with
  | zero => exact absurd h (by simp)
  | succ n =>
    have h : (n + 1) % 4 = 3 := h
    exact (if_neg (by omega)).trans (if_pos h)

/-- The call's proof data: the arrays as found; after each point the input's buffer at its block and the output's at `held`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => held V c t.val t.isLt
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = held V c t.val t.isLt := by dsimp only [dat0]

/-- The input's current buffer holds its block at every point. -/
theorem before0_0 (c : Dev nD) (t : Fin cfg0.N) (d) : (dat0 V c).before 0 t d = iblk0 V c 0 t :=
  ((dat0 V c).before_in_eq_fetched 0 rfl (fun _ => rfl) (fun _ _ _ => rfl)
    (fun t => by rw [after0_0]; unfold Dat.blockOf iblk0; rw [A_eq0]; try rfl) t d).trans
    (by unfold Dat.fetched Dat.blockOf iblk0; rw [A_eq0]; try rfl)

/-! ## The output's buffer carries over -/

/-- The output window is written by some branch at every point. -/
theorem live0_1 : ∀ t : Fin cfg0.N, cfg0.idle 1 (grid0.coords t) = false := by decide +kernel

/-- Whether the output's buffer is fresh at position `n`: only where an image half begins. -/
def freshAt (n : ℕ) : Bool := n % 4 == 0

theorem freshAt_step : ∀ t : Fin cfg0.N,
    freshAt (t.val + 1) = ((cfg0.win 1).flush t || (cfg0.idle 1 (cfg0.grid.coords t) && freshAt t.val)) := by
  decide +kernel

theorem fresh_eq (t : Fin cfg0.N) : cfg0.fresh 1 t.val = freshAt t.val :=
  Pipeline.Cfg.fresh_tab cfg0 1 freshAt rfl freshAt_step t.val (Nat.le_of_lt t.isLt)

/-- On a chunk that is not the first the output's buffer holds what the point before left. -/
theorem before0_1 (c : Dev nD) (t : Fin cfg0.N) (h : ¬t.val % 4 = 0) (d) :
    (dat0 V c).before 1 t d = held V c (t.val - 1) (Nat.lt_of_le_of_lt (Nat.sub_le _ _) t.isLt) := by
  have hf : freshAt t.val = false := by unfold freshAt; simpa using h
  rw [Dat.before_out_traj _ 1 rfl (fun _ _ => rfl)
    (fun t _ hi _ => absurd ((live0_1 t).symm.trans hi) Bool.false_ne_true) t.val t rfl d,
    if_neg (by rw [fresh_eq, hf]; exact Bool.false_ne_true)]
  dsimp only [dat0]

/-! ## The body at a point -/

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d)))

/-- and what it returns. -/
def bodyPost0 (c : Dev nD) (t : Fin cfg0.N) : sProp 𝕄 :=
  iprop((dat0 V c).Φ t.succ ∗ (dat0 V c).owesAt () t.succ
    ∗ (dat0 V c).leavesExact 0 t ∗ (dat0 V c).leavesExact 1 t)

set_option maxHeartbeats 1200000 in
/-- The body at any point, by the chunk's place in its image half. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    show (dat0 V c).leavesExact 0 t = owns (c : Thread nD τ) (st0_0 t) fullShare ((dat0 V c).after 0 t) from by
      unfold Dat.leavesExact; rw [show cfg0.idle 0 (grid0.coords t) = false from rfl],
    show (dat0 V c).leavesExact 1 t = owns (c : Thread nD τ) (st0_1 t) fullShare ((dat0 V c).after 1 t) from by
      unfold Dat.leavesExact; rw [live0_1 t],
    after0_0, after0_1]
  by_cases h0 : t.val % 4 = 0
  · rw [held_first V c t h0]
    iintro ⟨HΦ, Ho, ⟨%d0, H0⟩, ⟨%d1, H1⟩⟩
    iapply (body_first c Set.univ (grid0.coords t) _ _ _ _ (iblk0 V c 0 t) ((first_iff t).mpr h0)
      (fun h => absurd ((later_iff t).mp h) (by omega)) (fun h => absurd ((last_iff t).mp h) (by omega)) _)
    isplitl [H0]; · iexact H0
    isplitl [H1]; · iexists _; iexact H1
    iintro ⟨H0, H1⟩
    isplitl [HΦ]; · iexact HΦ
    isplitl [Ho]; · iexact Ho
    isplitl [H0]; · iexact H0
    iexact H1
  · simp only [before0_1 V c t h0]
    by_cases h3 : t.val % 4 = 3
    · rw [held_last V c t h3]
      iintro ⟨HΦ, Ho, ⟨%d0, H0⟩, ⟨%d1, H1⟩⟩
      iapply (body_last c Set.univ (grid0.coords t) _ _ _ _ (iblk0 V c 0 t) (fun h => h0 ((first_iff t).mp h))
        ((later_iff t).mpr (by omega)) ((last_iff t).mpr h3) _ _)
      isplitl [H0]; · iexact H0
      isplitl [H1]; · iexact H1
      iintro ⟨H0, H1⟩
      isplitl [HΦ]; · iexact HΦ
      isplitl [Ho]; · iexact Ho
      isplitl [H0]; · iexact H0
      iexact H1
    · rw [held_later V c t h0 h3]
      iintro ⟨HΦ, Ho, ⟨%d0, H0⟩, ⟨%d1, H1⟩⟩
      iapply (body_later c Set.univ (grid0.coords t) _ _ _ _ (iblk0 V c 0 t) (fun h => h0 ((first_iff t).mp h))
        ((later_iff t).mpr (by omega)) (fun h => h3 ((last_iff t).mp h)) _ _)
      isplitl [H0]; · iexact H0
      isplitl [H1]; · iexact H1
      iintro ⟨H0, H1⟩
      isplitl [HΦ]; · iexact HΦ
      isplitl [Ho]; · iexact Ho
      isplitl [H0]; · iexact H0
      iexact H1

/-- The pipeline's obligation for the body, at every point. -/
theorem body_obligation0 (c : Dev nD) : BodyObligation (dat0 (F := F) V c) (defs₀ (F := F)) Variants.none () Set.univ := fun t => by
  rw [bigSep_W0, bigSep_W0, show defs₀ (F := F) .tc cfg0.body (cfg0.bodyArgs t (cfg0.slots t)) = bodyAt0 t from by
    unfold defs₀; rw [Defs.onTc_tc]]
  exact triple_restated (sound_body0 V c t) rfl .rfl fun _ => .rfl

end Cert.KernelIdeal.Run

end
-- ==== Proof.KernelIdealRun.Norm.lean ====
/- The normalising call: one point, the whole array in, the whole result out. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.ValueKit.Basic
public import Idealize.ShloMosaic.Lib.Pipeline.ValueKit.Acc
public import Idealize.ShloMosaic.Lib.Ring
public import Idealize.ShloMosaic.Lib.Tactic

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

set_option maxHeartbeats 1000000 in
/-- The body leaves the normalised profiles of what its input buffer holds. -/
theorem body_norm (c : Dev nD) (E : Set ℕ) (arg0 : Memref sig .tc .vmem S2x8x384 .f32) (harg0 : arg0.IsWhole)
    (arg1 : Memref sig .tc .vmem S16x257 .f32) (harg1 : arg1.IsWhole) (x : Vec F S2x8x384 .f32) (K : PUnit → sProp 𝕄) :
    iprop(owns (c : Thread nD τ) arg0 fullShare x ∗ (∃ d, owns (c : Thread nD τ) arg1 fullShare d)
        ∗ (iprop(owns (c : Thread nD τ) arg0 fullShare x ∗ owns (c : Thread nD τ) arg1 fullShare (k1_pay1 x)) -∗ K ⟨⟩))
      ⊢ wp frame (wpE (defs₀ (F := F)) Variants.none c none) E (cc1__norm_kernel arg0 harg0 arg1 harg1) K := by
  simp only [cc1__norm_kernel_eq_skeleton]; unfold cc1__norm_kernel_skel
  unfold owns
  iintro ⟨⟨%f0, %hf0, H0⟩, ⟨%d1, %f1, -, H1⟩, Hk⟩
  subst hf0
  sl_exec
  sl_step
  iapply Hk
  isplitl [H0]
  · iexists f0; isplitr; · ipureintro; rfl
    iexact H0
  iexists _; isplitr
  swap; · iexact H1
  ipureintro
  refine (View.read_writes_eq_canon _ _ _ fun y =>
    View.cover_of_tiled [⟨Rect.unit (s := S16x257) ![0, 0] S16x257.size inb_S16x257_S16x257_0_0, _⟩] S16x257.size (by rfl) y).trans ?_
  refine (View.canon_cons_unit_lit _ _ _ (by decide)).trans ?_
  exact congrArg k1_pay1
    (View.ld_unit_lit (Val := Elt F) inb_S2x8x384_S2x8x384_0_0_0 (arg0.view.read (Elt F) f0) (by decide))

/-- The call's proof data: the arrays as found; afterwards the output's buffer at the normalised input block. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => k1_pay1 (iblk1 V c 0 t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = k1_pay1 (iblk1 V c 0 t) := by dsimp only [dat1]

/-- The input's buffer holds its block. -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)

/-- What the body is called with, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t))

/-- The body at its point. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [show (dat1 V c).Φ t.succ = (dat1 V c).Φ t.castSucc from rfl,
    show (dat1 V c).owesAt () t.succ = (dat1 V c).owesAt () t.castSucc from rfl,
    after1_0, after1_1]
  iintro ⟨HΦ, Ho, ⟨%d0, H0⟩, ⟨%d1, H1⟩⟩
  iapply (body_norm c Set.univ _ _ _ _ (iblk1 V c 0 t) _)
  isplitl [H0]; · iexact H0
  isplitl [H1]; · iexists _; iexact H1
  iintro ⟨H0, H1⟩
  isplitl [HΦ]; · iexact HΦ
  isplitl [Ho]; · iexact Ho
  isplitl [H0]; · iexact H0
  iexact H1

/-- The pipeline's obligation for the body. -/
theorem body_obligation1 (c : Dev nD) : BodyObligation (dat1 (F := F) V c) (defs₀ (F := F)) Variants.none () Set.univ := fun t => by
  rw [bigSep_W1, bigSep_W1, show defs₀ (F := F) .tc cfg1.body (cfg1.bodyArgs t (cfg1.slots t)) = bodyAt1 t from by
    unfold defs₀; rw [Defs.onTc_tc]]
  exact triple_restated (sound_body1 V c t) rfl .rfl fun _ => .rfl

end Cert.KernelIdeal.Run

end
-- ==== Proof.KernelIdealRun.Run.lean ====
/- The whole program: the accumulating call, then the normalising one. Every execution terminates with the arguments
   unchanged, every semaphore counter at zero, and the result array at what the second call writes over what the first
   one left. -/
module

public import proofs.«01_k».proof.Proof.KernelIdealRun.Accum
public import proofs.«01_k».proof.Proof.KernelIdealRun.Norm
public import Idealize.ShloMosaic.Lib.Pipeline.RegionsLoop
public import Idealize.ShloMosaic.Lib.Pipeline.FrameSuffix
public import Idealize.ShloMosaic.Lib.Claim

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The buffers between the calls -/

/-- The program's arguments. -/
abbrev argRefs : List (Ref sig .tc) := [main_arg0, main_arg1, main_arg2]
/-- The buffers at launch. -/
abbrev W0 : Dev nD → Valuation τ sig (Elt F) := fun c b => (s₀ m ρ).mem ((c : Dev nD), b)
/-- The same, read at the core's own references. -/
abbrev V0 : (c : Dev nD) → (b : Ref sig .tc) → Buf (Elt F) ((c : Thread nD τ).loc b) := fun c b => W0 m ρ c b

/-- The buffers when call 0 returns: its arrays at what it leaves, every other as it was. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
/-- A buffer that is no output of call 0 keeps its contents. -/
theorem W1_of (c : Dev nD) (r : Ref sig .tc) (h : ∀ w : Fin cfg0.W, Pipeline.arrRef spec0 w = r → (cfg0.win w).isOut = false) :
    W1 m ρ c (Proc.devRef .tc r) = W0 m ρ c (Proc.devRef .tc r) := by
  by_cases hw : ∃ w : Fin cfg0.W, Pipeline.arrRef spec0 w = r
  · obtain ⟨w, rfl⟩ := hw
    exact (W1_arr m ρ c w).trans (((dat0 (V0 m ρ) c).arrAt_in w (h w rfl) _).trans (A_eq0 (V0 m ρ) c w))
  · exact W1_of_ne m ρ c r fun w e => hw ⟨w, e⟩
/-- The same, read at the core's own references. -/
abbrev V1 : (c : Dev nD) → (b : Ref sig .tc) → Buf (Elt F) ((c : Thread nD τ).loc b) := fun c b => W1 m ρ c b
/-- No argument is an output of call 0. -/
theorem args_in0 : ∀ a ∈ argRefs, ∀ w : Fin cfg0.W, Pipeline.arrRef spec0 w = a → (cfg0.win w).isOut = false := by
  decide +kernel

/-- The buffers when call 1 returns: its arrays at what it leaves, every other as it was. -/
def W2 (c : Dev nD) : Valuation τ sig (Elt F) :=
  Pipeline.withArrays spec1 c (W1 m ρ c) fun w => (dat1 (V1 m ρ) c).arrAt w cfg1.N
theorem W2_arr (c : Dev nD) (w : Fin cfg1.W) :
    W2 m ρ c (Proc.devRef .tc (Pipeline.arrRef spec1 w)) = (dat1 (V1 m ρ) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m ρ c (Proc.devRef .tc b) = W1 m ρ c (Proc.devRef .tc b) := by
  unfold W2; exact Pipeline.withArrays_of_ne spec1 c _ _ b hb
/-- A buffer that is no output of call 1 keeps its contents. -/
theorem W2_of (c : Dev nD) (r : Ref sig .tc) (h : ∀ w : Fin cfg1.W, Pipeline.arrRef spec1 w = r → (cfg1.win w).isOut = false) :
    W2 m ρ c (Proc.devRef .tc r) = W1 m ρ c (Proc.devRef .tc r) := by
  by_cases hw : ∃ w : Fin cfg1.W, Pipeline.arrRef spec1 w = r
  · obtain ⟨w, rfl⟩ := hw
    exact (W2_arr m ρ c w).trans (((dat1 (V1 m ρ) c).arrAt_in w (h w rfl) _).trans (A_eq1 (V1 m ρ) c w))
  · exact W2_of_ne m ρ c r fun w e => hw ⟨w, e⟩
/-- The same, read at the core's own references. -/
abbrev V2 : (c : Dev nD) → (b : Ref sig .tc) → Buf (Elt F) ((c : Thread nD τ).loc b) := fun c b => W2 m ρ c b
/-- No argument is an output of call 1. -/
theorem args_in1 : ∀ a ∈ argRefs, ∀ w : Fin cfg1.W, Pipeline.arrRef spec1 w = a → (cfg1.win w).isOut = false := by
  decide +kernel

/-- The arguments end as launched. -/
theorem W2_args (c : Dev nD) : ∀ a ∈ argRefs, W2 m ρ c (Proc.devRef .tc a) = m ((c : Thread nD τ).loc a) :=
  fun a ha => (W2_of m ρ c a (args_in1 a ha)).trans (W1_of m ρ c a (args_in0 a ha))

/-- The result array at the end, named: what the normalising call leaves in it. -/
def result (c : Dev nD) : Buf (Elt F) ((c : Thread nD τ).loc main_v1) :=
  (dat1 (V1 m ρ) c).arrAt 1 cfg1.N

theorem W2_result (c : Dev nD) : W2 m ρ c (Proc.devRef .tc main_v1) = result m ρ c := W2_arr m ρ c 1

/-- The intermediate array the normalising call is entered with: what the accumulating call leaves in it. -/
theorem V1_sums (c : Dev nD) : V1 m ρ c main_v0 = (dat0 (V0 m ρ) c).arrAt 1 cfg0.N := W1_arr m ρ c 1

/-! ## The calls as segments of the program -/

abbrev adm : (p : Fin 2) → (pcfgs (F := F) p).Adm := fun p => (cfgs p).toPCfg_adm
/-- Each call's proof data, at the buffers it is entered with. -/
def pdats : (p : Fin 2) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V1 m ρ) c
abbrev 𝒱₀ : Variants := Variants.none
abbrev L : GSem nD τ sig → Finset Unit := fun _ => ∅
abbrev lv : GSem nD τ sig → Unit → ℕ := fun _ _ => 0
/-- What rides along beside the buffers: the generator register, and nothing owed. -/
abbrev R (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- What the core holds at the end: every buffer at `W2`, and the generator register. -/
abbrev Tₙ (c : Dev nD) : sProp 𝕄 := iprop(StableHlo.held (c : Thread nD τ) (Pipeline.ucRefs τ sig) (W2 m ρ c) ∗ ∃ r, prngReg c r)

set_option backward.isDefEq.respectTransparency.types false in
/-- The accumulating call over the buffers: entered at `W0`, left at `W1`. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) (A_eq0 (V0 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (fun w => (W1_arr m ρ c w).symm)
      (fun b hb => W1_of_ne m ρ c b fun w e => hb (Finset.mem_image.mpr ⟨w, Finset.mem_univ _, e⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The normalising call over the buffers: entered at `W1`, left at `W2`. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V1 m ρ) c).loose
  hwaits := Pipeline.hwaits_of_owed_zero _ _ _ _ L lv 1 fun _ _ => rfl
  pre c := iprop(StableHlo.held (c : Thread nD τ) (Pipeline.ucRefs τ sig) (W1 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V1 m ρ c) (A_eq1 (V1 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V1 m ρ c) (V2 m ρ c) ((pdats m ρ 1 c).arrAt · cfg1.N) (fun w => (W2_arr m ρ c w).symm)
      (fun b hb => W2_of_ne m ρ c b fun w e => hb (Finset.mem_image.mpr ⟨w, Finset.mem_univ _, e⟩))
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-- The program's two segments. -/
abbrev segs : List (Pipeline.Seg (pcfgs (F := F)) adm (pdats m ρ) () defs₀ 𝒱₀ L lv) :=
  [ .region (reg0 m ρ), .region (reg1 m ρ) ]

theorem no_unscoped : ∀ sm : SemLoc sig, sm.isScoped .tc = true := by decide

/-! ## The run -/

set_option backward.isDefEq.respectTransparency.types false in
/-- Every execution terminates with the result array at `result`, the arguments unchanged and every counter at zero. -/
theorem run : θ_run defs (onTc (τ := τ) (main (F := F))) ⟨m, fun _ => 0, ρ⟩ (fun r => (∀ c : Dev nD,
      r.2.mem ((c.tc : Thread nD τ).loc main_v1) = result m ρ c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  Pipeline.θ_run_regions_kit_sems (pcfgs (F := F)) adm (pdats m ρ) () cellOf_inj emb₁ defs₀ 𝒱₀ L lv m ρ main (segs m ρ)
    (fun c Q => by rw [main_segs adm (pdats m ρ) () 𝒱₀ L lv (reg0 m ρ) (reg1 m ρ) c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h hz => ⟨fun c =>
      ⟨(h c _ (mem_uc main_v1 (by decide))).trans (W2_result m ρ c),
       (h c _ (mem_uc main_arg0 (by decide))).trans (W2_args m ρ c main_arg0 (by decide)),
       (h c _ (mem_uc main_arg1 (by decide))).trans (W2_args m ρ c main_arg1 (by decide)),
       (h c _ (mem_uc main_arg2 (by decide))).trans (W2_args m ρ c main_arg2 (by decide))⟩,
      funext fun g => hz g (.inr (no_unscoped g.2))⟩)

/-- The same without the result array: the arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => (h.1 c).2, h.2⟩) (run m ρ)

end Cert.KernelIdeal.Run

end
-- ==== Proof.Value.Rings.lean ====
/-
  The ring geometry of the 512 x 512 plane: pixel (h, w) lies in ring `max |h - 256| |w - 256|`. What the 32-bit index
  arithmetic of the kernel and of the masks computes of it, and how many pixels a ring has.
-/
module

public import Idealize.ShloMosaic.PureOps
public import Idealize.ShloMosaic.Lib.ValueIdx

@[expose] public section

set_option maxRecDepth 16384

namespace Cert.Rings

open Idealize.ShloMosaic

/-- The distance of a row or column from 256. -/
def off (h : ℕ) : ℕ := (h - 256) + (256 - h)

/-- The ring of a pixel. -/
def ring (h w : ℕ) : ℕ := max (off h) (off w)

/-- The number of pixels of ring `l`, for `l ≤ 256`. -/
def ringSize (l : ℕ) : ℕ := if l = 0 then 1 else if l = 256 then 1023 else 8 * l

theorem ringSize_pos (l : ℕ) : 0 < ringSize l := by unfold ringSize; split_ifs <;> omega

/-- A chunk's row word: row `r` of chunk `c` is row `r + 128 c` of the image. -/
theorem row_word (r c : ℕ) :
    IntOp.addi (BitVec.ofNat 32 r) (Scalar.muli (BitVec.ofNat 32 c) 128#32) = BitVec.ofNat 32 (r + c * 128) := by
  show BitVec.ofNat 32 r + BitVec.ofNat 32 c * BitVec.ofNat 32 128 = _
  rw [BitVec.ofNat_add, BitVec.ofNat_mul]

/-- The distance to the nearer edge, one less on the low side, is 255 less the distance from 256. -/
theorem edge_word : ∀ w : Fin 512,
    (IntOp.minsi (IntOp.subi (BitVec.ofNat 32 w.val) 1#32) (IntOp.subi 511#32 (BitVec.ofNat 32 w.val))).toInt
      = 255 - (off w.val : ℤ) := by
  decide +kernel

/-- The word of the distance from 256. -/
theorem off_word : ∀ w : Fin 512,
    IntOp.absi (IntOp.subi (BitVec.ofNat 32 w.val) 256#32) = BitVec.ofNat 32 (off w.val) := by
  decide +kernel

/-- A distance is at most 256. -/
theorem off_le (w : Fin 512) : off w.val ≤ 256 := by
  have := w.isLt; unfold off; omega

/-- The kernel's row-or-column mask: column `w`'s edge distance is at least row `h`'s when `w` is no further from 256. -/
theorem mask_word (h w : Fin 512) :
    IntOp.cmpi .sge
        (IntOp.minsi (IntOp.subi (BitVec.ofNat 32 w.val) 1#32) (IntOp.subi 511#32 (BitVec.ofNat 32 w.val)))
        (IntOp.minsi (IntOp.subi (BitVec.ofNat 32 h.val) 1#32) (IntOp.subi 511#32 (BitVec.ofNat 32 h.val)))
      = BitVec.ofBool (decide (off w.val ≤ off h.val)) := by
  have e1 := edge_word w
  have e2 := edge_word h
  generalize IntOp.minsi (IntOp.subi (BitVec.ofNat 32 w.val) 1#32) (IntOp.subi 511#32 (BitVec.ofNat 32 w.val)) = a at e1 ⊢
  generalize IntOp.minsi (IntOp.subi (BitVec.ofNat 32 h.val) 1#32) (IntOp.subi 511#32 (BitVec.ofNat 32 h.val)) = b at e2 ⊢
  show BitVec.ofBool (BitVec.sle b a) = _
  rw [BitVec.sle_eq_decide, e1, e2]
  exact congrArg BitVec.ofBool (decide_eq_decide.mpr (by omega))

/-- Equality of a lane word with a distance's word is equality of the numbers. -/
theorem lane_word {l k : ℕ} (hl : l < 2 ^ 32) (hk : k < 2 ^ 32) :
    IntOp.cmpi .eq (BitVec.ofNat 32 l) (BitVec.ofNat 32 k) = BitVec.ofBool (decide (l = k)) := by
  show BitVec.ofBool (BitVec.ofNat 32 l == BitVec.ofNat 32 k) = _
  rw [Bool.beq_eq_decide_eq]
  refine congrArg BitVec.ofBool (decide_eq_decide.mpr ⟨fun e => ?_, fun e => e ▸ rfl⟩)
  have := congrArg BitVec.toNat e
  rwa [BitVec.toNat_ofNat, BitVec.toNat_ofNat, Nat.mod_eq_of_lt hl, Nat.mod_eq_of_lt hk] at this

/-- Rows at a distance: one at 0 and one at 256, two at every distance between. -/
theorem rows_at (l : Fin 257) : (∑ h : Fin 512, if off h.val = l.val then 1 else 0)
    = if l.val = 0 ∨ l.val = 256 then 1 else 2 := by
  have hl := l.isLt
  rw [← Finset.sum_range (fun h => if off h = l.val then 1 else 0), ← Finset.card_filter]
  by_cases h0 : l.val = 0 ∨ l.val = 256
  · rw [if_pos h0]
    have e : (Finset.range 512).filter (fun h => off h = l.val) = {256 - l.val} := by
      ext h; rw [Finset.mem_filter]; simp only [Finset.mem_range, Finset.mem_singleton, off]; omega
    rw [e, Finset.card_singleton]
  · rw [if_neg h0]
    have e : (Finset.range 512).filter (fun h => off h = l.val) = {256 - l.val, 256 + l.val} := by
      ext h; rw [Finset.mem_filter]; simp only [Finset.mem_range, Finset.mem_insert, Finset.mem_singleton, off]; omega
    rw [e, Finset.card_pair (by omega)]

/-- Rows nearer than a distance. -/
theorem rows_below (l : Fin 257) : (∑ h : Fin 512, if off h.val < l.val then 1 else 0) = 2 * l.val - 1 := by
  have hl := l.isLt
  rw [← Finset.sum_range (fun h => if off h < l.val then 1 else 0), ← Finset.card_filter]
  have e : (Finset.range 512).filter (fun h => off h < l.val) = Finset.Ico (257 - l.val) (256 + l.val) := by
    ext h; rw [Finset.mem_filter]; simp only [Finset.mem_range, Finset.mem_Ico, off]; omega
  rw [e, Nat.card_Ico]
  omega

/-- The pixels of a ring, counted. -/
theorem pixels (l : Fin 257) : (∑ h : Fin 512, ∑ w : Fin 512, if ring h.val w.val = l.val then 1 else 0) = ringSize l.val := by
  have e : ∀ h w : Fin 512, (if ring h.val w.val = l.val then 1 else 0 : ℕ)
      = (if off h.val = l.val then 1 else 0) * (if off w.val = l.val then 1 else 0)
        + (if off h.val = l.val then 1 else 0) * (if off w.val < l.val then 1 else 0)
        + (if off h.val < l.val then 1 else 0) * (if off w.val = l.val then 1 else 0) := by
    intro h w
    unfold ring
    split_ifs <;> omega
  simp only [e, Finset.sum_add_distrib, ← Finset.mul_sum, ← Finset.sum_mul, rows_at, rows_below]
  have := l.isLt
  unfold ringSize
  split_ifs <;> omega

end Cert.Rings
-- ==== Proof.Value.Reals.lean ====
/-
  The scalar facts used to read the programs on the extended reals: the constants' values, an indicator bit as the real
  0 or 1, sums of reals, and the extrema of a padded array.
-/
module

public import proofs.«01_k».proof.Proof.Value.Rings
public import Idealize.ShloMosaic.PureOps.Ideal.Laws
public import Idealize.ShloMosaic.Lib.IdealHost

@[expose] public section

set_option maxRecDepth 16384

noncomputable section

namespace Cert.Reals

open Idealize.ShloMosaic

/-- A comparison bit, widened to a word and read as a float, is the real 1 or 0. -/
theorem sitofp_bit (p : Prop) [Decidable p] :
    FloatOps.sitofp (F := Ideal) .f32 (BitVec.setWidth 32 (BitVec.ofBool (decide p))) = (((if p then 1 else 0 : ℝ)) : EReal) := by
  show ((((BitVec.setWidth 32 (BitVec.ofBool (decide p))).toInt : ℝ)) : EReal) = _
  by_cases h : p
  · rw [if_pos h, decide_eq_true h, show (BitVec.setWidth 32 (BitVec.ofBool true)).toInt = 1 by decide]; norm_num
  · rw [if_neg h, decide_eq_false h, show (BitVec.setWidth 32 (BitVec.ofBool false)).toInt = 0 by decide]; norm_num

/-- A small natural number's word, read as a float, is that number. -/
theorem sitofp_nat {n : ℕ} (h : n < 2 ^ 31) : FloatOps.sitofp (F := Ideal) .f32 (BitVec.ofNat 32 n) = ((n : ℝ) : EReal) := by
  show ((((BitVec.ofNat 32 n).toInt : ℝ)) : EReal) = _
  rw [show (BitVec.ofNat 32 n).toInt = (n : ℤ) by
    rw [BitVec.toInt_eq_toNat_of_lt (by rw [BitVec.toNat_ofNat, Nat.mod_eq_of_lt] <;> omega), BitVec.toNat_ofNat,
      Nat.mod_eq_of_lt (by omega)]]
  norm_cast

theorem ofBits_inf : Ideal.ofBits .f32 0x7F800000#32 = ⊤ := by
  simp [Ideal.ofBits, Ideal.ieee]

theorem ofBits_neg_inf : Ideal.ofBits .f32 0xFF800000#32 = ⊥ := by
  simp [Ideal.ofBits, Ideal.ieee]

theorem ofBits_8 : Ideal.ofBits .f32 0x41000000#32 = ((8 : ℝ) : EReal) := by
  simp [Ideal.ofBits, Ideal.ieee, -EReal.coe_mul]; norm_num

theorem ofBits_20 : Ideal.ofBits .f32 0x41A00000#32 = ((20 : ℝ) : EReal) := by
  simp [Ideal.ofBits, Ideal.ieee, -EReal.coe_mul]; norm_num

theorem ofBits_1023 : Ideal.ofBits .f32 0x447FC000#32 = ((1023 : ℝ) : EReal) := by
  simp [Ideal.ofBits, Ideal.ieee, -EReal.coe_mul]; norm_num

/-- The red weight's pattern. -/
theorem ofBits_red : Ideal.ofBits .f32 0x3E991687#32 = ((10032775 / 33554432 : ℝ) : EReal) := by
  simp [Ideal.ofBits, Ideal.ieee, -EReal.coe_mul]; norm_num

/-- The green weight's pattern. -/
theorem ofBits_green : Ideal.ofBits .f32 0x3F1645A2#32 = ((4924113 / 8388608 : ℝ) : EReal) := by
  simp [Ideal.ofBits, Ideal.ieee, -EReal.coe_mul]; norm_num

/-- The blue weight's pattern. -/
theorem ofBits_blue : Ideal.ofBits .f32 0x3DE978D5#32 = ((15300821 / 134217728 : ℝ) : EReal) := by
  simp [Ideal.ofBits, Ideal.ieee, -EReal.coe_mul]; norm_num

/-- The masks' floor is at most one. -/
theorem ofBits_floor_le : Ideal.ofBits .f32 0x322BCC77#32 ≤ ((1 : ℝ) : EReal) := by
  have e : Ideal.ofBits .f32 0x322BCC77#32 = ((11258999 / 1125899906842624 : ℝ) : EReal) := by
    simp [Ideal.ofBits, Ideal.ieee, -EReal.coe_mul]; norm_num
  rw [e]
  exact EReal.coe_le_coe_iff.mpr (by norm_num)

/-- A finite sum of reals is a real sum. -/
theorem coe_sum {ι : Type} [Fintype ι] (f : ι → ℝ) : (∑ i, ((f i : ℝ) : EReal)) = ((∑ i, f i : ℝ) : EReal) := by
  classical
  induction (Finset.univ : Finset ι) using Finset.induction_on with
  | empty => simp
  | insert a s ha ih => rw [Finset.sum_insert ha, Finset.sum_insert ha, ih, EReal.coe_add]

/-- The minimum of the kernel's padded array, its lanes past the last ring at infinity, is the minimum over the rings. -/
theorem fold_min_pad (f : Fin 16 × Fin 384 → EReal) (g : Fin 16 × Fin 257 → EReal)
    (hf : ∀ n (l : Fin 384) (h : l.val < 257), f (n, l) = g (n, ⟨l.val, h⟩))
    (ht : ∀ n (l : Fin 384), ¬ l.val < 257 → f (n, l) = ⊤) :
    Finset.univ.fold min ⊤ f = Finset.univ.fold min ⊤ g := by
  apply le_antisymm
  · refine Finset.le_fold_min _ |>.mpr ⟨le_top, fun p _ => ?_⟩
    have h := hf p.1 ⟨p.2.val, by have := p.2.isLt; omega⟩ p.2.isLt
    exact (Finset.le_fold_min _ |>.mp le_rfl).2 _ (Finset.mem_univ _) |>.trans h.le
  · refine Finset.le_fold_min _ |>.mpr ⟨le_top, fun p _ => ?_⟩
    by_cases hp : p.2.val < 257
    · exact (Finset.le_fold_min _ |>.mp le_rfl).2 (p.1, ⟨p.2.val, hp⟩) (Finset.mem_univ _) |>.trans (hf p.1 p.2 hp).ge
    · rw [show f p = ⊤ from ht p.1 p.2 hp]; exact le_top

/-- The maximum of the kernel's padded array, its lanes past the last ring at minus infinity, is the maximum over the
    rings. -/
theorem fold_max_pad (f : Fin 16 × Fin 384 → EReal) (g : Fin 16 × Fin 257 → EReal)
    (hf : ∀ n (l : Fin 384) (h : l.val < 257), f (n, l) = g (n, ⟨l.val, h⟩))
    (hb : ∀ n (l : Fin 384), ¬ l.val < 257 → f (n, l) = ⊥) :
    Finset.univ.fold max ⊥ f = Finset.univ.fold max ⊥ g := by
  have le_fold : ∀ {ι : Type} [Fintype ι] (u : ι → EReal) (p : ι), u p ≤ Finset.univ.fold max ⊥ u := fun u p =>
    ((Finset.fold_max_le _).mp le_rfl).2 p (Finset.mem_univ p)
  apply le_antisymm
  · refine (Finset.fold_max_le _).mpr ⟨bot_le, fun p _ => ?_⟩
    by_cases hp : p.2.val < 257
    · exact (hf p.1 p.2 hp).le.trans (le_fold g (p.1, ⟨p.2.val, hp⟩))
    · rw [show f p = ⊥ from hb p.1 p.2 hp]; exact bot_le
  · refine (Finset.fold_max_le _).mpr ⟨bot_le, fun p _ => ?_⟩
    have h := hf p.1 ⟨p.2.val, by have := p.2.isLt; omega⟩ p.2.isLt
    exact h.ge.trans (le_fold f (p.1, ⟨p.2.val, by have := p.2.isLt; omega⟩))

end Cert.Reals

end
-- ==== Proof.Value.Infinite.lean ====
/-
  Infinite values. A sum with an infinite term is infinite, and so is its quotient by a positive real. A profile with an
  infinite mean has an infinite range, and every quotient by an infinite range is zero.
-/
module

public import proofs.«01_k».proof.Proof.Value.Reals

@[expose] public section

set_option maxRecDepth 16384

noncomputable section

namespace Cert.Infinite

open Idealize.ShloMosaic

/-- A value that is not a real. -/
def Infinite (x : EReal) : Prop := x = ⊤ ∨ x = ⊥

/-- A value is a real or infinite. -/
theorem real_or_infinite (x : EReal) : (∃ r : ℝ, x = (r : EReal)) ∨ Infinite x := by
  induction x with
  | bot => exact Or.inr (Or.inr rfl)
  | top => exact Or.inr (Or.inl rfl)
  | coe r => exact Or.inl ⟨r, rfl⟩

theorem add_left {x : EReal} (h : Infinite x) (y : EReal) : Infinite (x + y) := by
  rcases h with rfl | rfl
  · by_cases hy : y = ⊥
    · right; rw [hy, EReal.add_bot]
    · left; exact EReal.top_add_of_ne_bot hy
  · right; exact EReal.bot_add y

theorem add_right {y : EReal} (h : Infinite y) (x : EReal) : Infinite (x + y) := add_comm y x ▸ add_left h x

/-- A sum with an infinite term is infinite. -/
theorem sum {ι : Type} [Fintype ι] (f : ι → EReal) (i : ι) (h : Infinite (f i)) : Infinite (∑ j, f j) := by
  classical
  rw [← Finset.add_sum_erase _ f (Finset.mem_univ i)]
  exact add_left h _

/-- A positive real times an infinite value is infinite. -/
theorem pos_mul {r : ℝ} (hr : 0 < r) {x : EReal} (h : Infinite x) : Infinite ((r : EReal) * x) := by
  rcases h with rfl | rfl
  · left; exact EReal.coe_mul_top_of_pos hr
  · right; exact EReal.coe_mul_bot_of_pos hr

/-- An infinite value over a positive real is infinite. -/
theorem div_pos {r : ℝ} (hr : 0 < r) {x : EReal} (h : Infinite x) : Infinite (Ideal.div x (r : EReal)) := by
  rw [Ideal.div_coe hr.ne', mul_comm]
  exact pos_mul (one_div_pos.mpr hr) h

/-- The difference of two values, in order, one of them infinite, is infinite. -/
theorem sub_of_le {a b : EReal} (hab : a ≤ b) (h : Infinite a ∨ Infinite b) : Infinite (b - a) := by
  rw [sub_eq_add_neg]
  rcases h with (rfl | rfl) | h
  · exact add_right (Or.inr EReal.neg_top) b
  · exact add_right (Or.inl EReal.neg_bot) b
  · exact add_left h _

/-- Every quotient by an infinite value is zero. -/
theorem div_infinite (x : EReal) {y : EReal} (h : Infinite y) : Ideal.div x y = 0 := by
  unfold Ideal.div
  rcases h with rfl | rfl
  · rw [if_neg (by decide), EReal.inv_top, mul_zero]
  · rw [if_neg (by decide), EReal.inv_bot, mul_zero]

end Cert.Infinite

namespace Cert.Profile

open Idealize.ShloMosaic Cert.Infinite

variable (μ : Fin 16 × Fin 257 → EReal)

/-- The smallest and the largest of the batch's means. -/
def low : EReal := Finset.univ.fold min ⊤ μ
def high : EReal := Finset.univ.fold max ⊥ μ

/-- The normalised profile of the means. -/
def profile (n : Fin 16) (l : Fin 257) : EReal := Ideal.div (μ (n, l) - low μ) (high μ - low μ)

theorem low_le (p : Fin 16 × Fin 257) : low μ ≤ μ p := ((Finset.le_fold_min _).mp le_rfl).2 p (Finset.mem_univ p)

theorem le_high (p : Fin 16 × Fin 257) : μ p ≤ high μ := ((Finset.fold_max_le _).mp le_rfl).2 p (Finset.mem_univ p)

/-- With an infinite mean among them the whole profile is zero. -/
theorem profile_zero (p : Fin 16 × Fin 257) (h : Infinite (μ p)) (n : Fin 16) (l : Fin 257) : profile μ n l = 0 := by
  refine div_infinite _ (sub_of_le ((low_le μ p).trans (le_high μ p)) ?_)
  rcases h with h | h
  · exact Or.inr (Or.inl (top_le_iff.mp (h ▸ le_high μ p)))
  · exact Or.inl (Or.inr (le_bot_iff.mp (h ▸ low_le μ p)))

end Cert.Profile

end
-- ==== Proof.Value.Block.lean ====
/-
  What one grid point of the accumulating call adds to its block. On real inputs, lane `l` of image `b` is the sum of the
  magnitudes of the chunk's pixels that lie in ring `l`; an infinite pixel makes some lane infinite. The kernel sums each row over the pixels whose ring is set by
  the row, each column over the others, and sends the row and column sums to their lanes by two one-hot products.
-/
module

public import proofs.«01_k».proof.Proof.Value.Infinite
public import proofs.«01_k».proof.Proof.KernelIdealRun.Cases
public import Idealize.ShloMosaic.Lib.Pointwise

@[expose] public section

set_option maxRecDepth 16384

noncomputable section

namespace Cert.KernelIdeal.Block

open Cert.KernelIdeal Cert.KernelIdeal.Gen Cert.KernelIdeal.Run Cert.Rings Cert.Reals Cert.Infinite
open Idealize.ShloMosaic Idealize.ShloMosaic.TcCoe

/-- A pixel's magnitude, of its three channels: of extended reals, and of reals. -/
def weigh (p q s : EReal) : EReal :=
  ((50163875 / 8388608 : ℝ) : EReal) * p + ((24620565 / 2097152 : ℝ) : EReal) * q + ((76504105 / 33554432 : ℝ) : EReal) * s

def mag (p q s : ℝ) : ℝ := 50163875 / 8388608 * p + 24620565 / 2097152 * q + 76504105 / 33554432 * s

theorem weigh_real (p q s : ℝ) : weigh (p : EReal) (q : EReal) (s : EReal) = ((mag p q s : ℝ) : EReal) := by
  simp only [weigh, mag, EReal.coe_add, EReal.coe_mul]

/-- The magnitude of a pixel with an infinite channel is infinite. -/
theorem weigh_infinite (f : Fin 3 → EReal) (k : Fin 3) (h : Infinite (f k)) : Infinite (weigh (f 0) (f 1) (f 2)) := by
  match k, h with
  | 0, h => exact add_left (add_left (pos_mul (by norm_num) h) _) _
  | 1, h => exact add_left (add_right (pos_mul (by norm_num) h) _) _
  | 2, h => exact add_right (pos_mul (by norm_num) h) _

theorem red : Named.named (F := Ideal) Cert.KernelIdeal.κ "red" (φ := .f32) 0x40BF5C29#32 = ((50163875 / 8388608 : ℝ) : EReal) :=
  IdealRules.named_const.ideal_named_scalar _ _ _ _ rfl

theorem green : Named.named (F := Ideal) Cert.KernelIdeal.κ "green" (φ := .f32) 0x413BD70A#32 = ((24620565 / 2097152 : ℝ) : EReal) :=
  IdealRules.named_const.ideal_named_scalar _ _ _ _ rfl

theorem blue : Named.named (F := Ideal) Cert.KernelIdeal.κ "blue" (φ := .f32) 0x4011EB85#32 = ((76504105 / 33554432 : ℝ) : EReal) :=
  IdealRules.named_const.ideal_named_scalar _ _ _ _ rfl

variable (x : Vec Ideal S8x3x128x512 .f32) (X : Fin 8 → Fin 3 → Fin 128 → Fin 512 → ℝ)

/-- The magnitude of a pixel of the block. -/
abbrev P (b : Fin 8) (r : Fin 128) (w : Fin 512) : EReal := weigh (x (ix4 b 0 r w)) (x (ix4 b 1 r w)) (x (ix4 b 2 r w))

/-- The same of a real block. -/
abbrev M (b : Fin 8) (r : Fin 128) (w : Fin 512) : ℝ := mag (X b 0 r w) (X b 1 r w) (X b 2 r w)

/-- The indicator of a condition. -/
abbrev bit (p : Prop) [Decidable p] : ℝ := if p then 1 else 0

/-- The weighted channels are the pixel's magnitude. -/
theorem weighted (b : Fin 8) (r : Fin 128) (w : Fin 512) : k0_pay5 (F := Ideal) x (ix3 b r w) = P x b r w := by
  pointwise [k0_pay5]
  rw [red, green, blue]
  rfl

variable (i : grid0.Coords)

/-- The chunk's number. -/
abbrev chunkNo : ℕ := (i 1).val

theorem chunkNo_lt : chunkNo i < 4 := (i 1).isLt

/-- Row `r` of the chunk in the image. -/
abbrev row (r : Fin 128) : Fin 512 := ⟨r.val + chunkNo i * 128, by have := chunkNo_lt i; have := r.isLt; omega⟩

/-- The magnitudes of the pixels whose ring is set by the row. -/
theorem by_row (b : Fin 8) (r : Fin 128) (w : Fin 512) :
    k0_pay6 (F := Ideal) i x (ix3 b r w) = P x b r w * ((bit (off w.val ≤ off (row i r).val) : ℝ) : EReal) := by
  pointwise [k0_pay6]
  rw [weighted x, row_word, mask_word (row i r) w, sitofp_bit]

/-- The row sums. -/
theorem row_sums (b : Fin 8) (r : Fin 128) :
    k0_pay7 (F := Ideal) i x (ix2 b r) = ∑ w : Fin 512, P x b r w * ((bit (off w.val ≤ off (row i r).val) : ℝ) : EReal) := by
  pointwise [k0_pay7]
  simp only [by_row x i]

/-- The column sums. -/
theorem column_sums (b : Fin 8) (w : Fin 512) :
    k0_pay8 (F := Ideal) i x (ix2 b w)
      = ∑ r : Fin 128, (P x b r w - P x b r w * ((bit (off w.val ≤ off (row i r).val) : ℝ) : EReal)) := by
  pointwise [k0_pay8]
  simp only [by_row x i, weighted x]

/-- The two one-hot products of row values and column values. -/
theorem one_hot (u : FVec Ideal S8x128 .f32) (v : FVec Ideal S8x512 .f32) (b : Fin 8) (l : Fin 384) :
    k0_pay1 (F := Ideal) u v (iota .tc S128x384 32 [1] iota_S128x384_d1_w32)
      (iota .tc S128x384 32 [0] iota_S128x384_d0_w32) (k0_pay9 i) (ix2 b l)
      = (∑ r : Fin 128, u (ix2 b r) * ((bit (l.val = off (row i r).val) : ℝ) : EReal))
          + ∑ w : Fin 512, v (ix2 b w) * ((bit (l.val = off w.val) : ℝ) : EReal) := by
  have hl : l.val < 2 ^ 32 := by have := l.isLt; omega
  have ho : ∀ w : Fin 512, off w.val < 2 ^ 32 := fun w => by have := off_le w; omega
  pointwise [k0_pay1, k0_pay9]
  have e0 : ∀ w : Fin 512, IntOp.addi (BitVec.ofNat 32 w.val) 0#32 = BitVec.ofNat 32 w.val := fun w => BitVec.add_zero _
  have e1 : ∀ r : Fin 128, IntOp.absi (IntOp.subi (BitVec.ofNat 32 (r.val + chunkNo i * 128)) 256#32)
      = BitVec.ofNat 32 (off (row i r).val) := fun r => off_word (row i r)
  have e2 : ∀ r : Fin 128, IntOp.cmpi .eq (BitVec.ofNat 32 l.val) (BitVec.ofNat 32 (off (r.val + chunkNo i * 128)))
      = BitVec.ofBool (decide (l.val = off (r.val + chunkNo i * 128))) := fun r => lane_word hl (ho (row i r))
  simp only [row_word, e0, e1, off_word, e2, lane_word hl (ho _), sitofp_bit]

/-- What a point adds in lane `l` of image `b`: row sums and column sums, each sent to its lane. -/
def part (b : Fin 8) (l : ℕ) : EReal :=
  (∑ r : Fin 128, (∑ w : Fin 512, P x b r w * ((bit (off w.val ≤ off (row i r).val) : ℝ) : EReal))
      * ((bit (l = off (row i r).val) : ℝ) : EReal))
    + ∑ w : Fin 512, (∑ r : Fin 128, (P x b r w - P x b r w * ((bit (off w.val ≤ off (row i r).val) : ℝ) : EReal)))
      * ((bit (l = off w.val) : ℝ) : EReal)

/-- Lane `l`'s sum over the chunk: the magnitudes of its pixels of ring `l`. -/
def chunkSum (b : Fin 8) (l : ℕ) : ℝ :=
  ∑ r, ∑ w : Fin 512, if ring (row i r).val w.val = l then M X b r w else 0

/-- The row part and the column part together are the chunk's pixels of the ring. -/
theorem parts (b : Fin 8) (l : ℕ) :
    (∑ r, (∑ w, M X b r w * (if off w.val ≤ off (row i r).val then 1 else 0)) * (if l = off (row i r).val then 1 else 0))
      + (∑ w : Fin 512, (∑ r, (M X b r w - M X b r w * (if off w.val ≤ off (row i r).val then 1 else 0))) * (if l = off w.val then 1 else 0))
      = chunkSum X i b l := by
  unfold chunkSum
  simp only [Finset.sum_mul]
  rw [Finset.sum_comm (s := (Finset.univ : Finset (Fin 512))), ← Finset.sum_add_distrib]
  refine Finset.sum_congr rfl fun r _ => ?_
  rw [← Finset.sum_add_distrib]
  refine Finset.sum_congr rfl fun w _ => ?_
  unfold ring
  by_cases h : off w.val ≤ off (row i r).val
  · rw [if_pos h, max_eq_left h]
    by_cases h1 : l = off (row i r).val
    · rw [if_pos h1, if_pos h1.symm]; ring
    · rw [if_neg h1, if_neg (Ne.symm h1)]; ring
  · rw [if_neg h, max_eq_right (not_le.mp h).le]
    by_cases h1 : l = off w.val
    · rw [if_pos h1, if_pos h1.symm]; ring
    · rw [if_neg h1, if_neg (Ne.symm h1)]; ring

/-- On a real block, what a point adds is the chunk's sum of the ring. -/
theorem part_real (hx : ∀ b k r w, x (ix4 b k r w) = ((X b k r w : ℝ) : EReal)) (b : Fin 8) (l : ℕ) :
    part x i b l = ((chunkSum X i b l : ℝ) : EReal) := by
  rw [← parts, EReal.coe_add]
  unfold part
  simp only [P, hx, weigh_real, ← EReal.coe_mul, ← EReal.coe_sub, coe_sum]

/-- Where a pixel's magnitude is infinite, so is what the point adds in some ring's lane. -/
theorem part_infinite (b : Fin 8) (r : Fin 128) (w : Fin 512) (h : Infinite (P x b r w)) :
    ∃ l : Fin 257, Infinite (part x i b l.val) := by
  by_cases hc : off w.val ≤ off (row i r).val
  · refine ⟨⟨off (row i r).val, by have := off_le (row i r); omega⟩, add_left (sum _ r ?_) _⟩
    rw [bit, if_pos rfl, EReal.coe_one, mul_one]
    refine sum _ w ?_
    rw [bit, if_pos hc, EReal.coe_one, mul_one]
    exact h
  · refine ⟨⟨off w.val, by have := off_le w; omega⟩, add_right (sum _ w ?_) _⟩
    rw [bit, if_pos rfl, EReal.coe_one, mul_one]
    refine sum _ r ?_
    rw [bit, if_neg hc, EReal.coe_zero, mul_zero, sub_zero]
    exact h

/-- A point's sums, as a first chunk stores them. -/
theorem chunk_apply (b : Fin 8) (l : Fin 384) : chunk (F := Ideal) i x (ix3 0 b l) = part x i b l.val := by
  unfold chunk
  pointwise [k0_pay2]
  rw [one_hot i]
  simp only [row_sums x i, column_sums x i]
  rfl

/-- A later point's sums, added to what the block held. -/
theorem added_apply (y : Vec Ideal S1x8x384 .f32) (b : Fin 8) (l : Fin 384) :
    added (F := Ideal) i x y (ix3 0 b l) = y (ix3 0 b l) + part x i b l.val := by
  unfold added
  pointwise [k0_pay3]
  rw [one_hot i]
  simp only [row_sums x i, column_sums x i]
  rfl

/-- The last point's division, in a lane that is a ring: by the number of the ring's pixels. -/
theorem divided (y : Vec Ideal S1x8x384 .f32) (b : Fin 8) (l : Fin 384) (hl : l.val < 257) :
    k0_pay4 (F := Ideal) y (ix3 0 b l) = Ideal.div (y (ix3 0 b l)) (((ringSize l.val : ℕ) : ℝ) : EReal) := by
  pointwise [k0_pay4]
  congr 1
  have h32 : l.val < 2 ^ 32 := by omega
  have c0 : IntOp.cmpi .eq (BitVec.ofNat 32 l.val) 0#32 = BitVec.ofBool (decide (l.val = 0)) := lane_word h32 (by norm_num)
  have c1 : IntOp.cmpi .eq (BitVec.ofNat 32 l.val) 256#32 = BitVec.ofBool (decide (l.val = 256)) := lane_word h32 (by norm_num)
  rw [c0, c1, ofBits_1023, ofBits_8, sitofp_nat (by omega)]
  unfold ringSize Scalar.select
  by_cases h0 : l.val = 0
  · rw [if_pos h0, decide_eq_true h0, if_pos (by decide)]; norm_num
  · rw [if_neg h0, decide_eq_false h0, if_neg (by decide)]
    by_cases h1 : l.val = 256
    · rw [if_pos h1, decide_eq_true h1, if_pos (by decide)]; norm_num
    · rw [if_neg h1, decide_eq_false h1, if_neg (by decide), ← EReal.coe_mul]; norm_num

end Cert.KernelIdeal.Block

end
-- ==== Proof.Value.Array.lean ====
/-
  What the two calls leave in their arrays. Each image half's block, after its four chunks, holds for every ring what the
  chunks add, over the number of the ring's pixels: on real inputs, the mean of the pixels' magnitudes. The block of half
  `g` is block `g` of the intermediate array; and the normalising call's result is its payload on that whole array.
-/
module

public import proofs.«01_k».proof.Proof.Value.Block
public import proofs.«01_k».proof.Proof.KernelIdealRun.Run
public import Idealize.ShloMosaic.Lib.Pipeline.ValueKit

@[expose] public section

set_option maxRecDepth 16384

noncomputable section

namespace Cert.KernelIdeal.Sums

open Cert.KernelIdeal Cert.KernelIdeal.Gen Cert.KernelIdeal.Run Cert.KernelIdeal.Block Cert.Rings Cert.Reals Cert.Infinite
open Idealize.ShloMosaic Idealize.ShloMosaic.TcCoe
open Idealize.ShloMosaic.Pipeline (Dat)

variable (V : (c : Dev nD) → (b : Ref sig .tc) → Buf (Elt Ideal) ((c : Thread nD τ).loc b))

/-- A grid point's image half and chunk. -/
theorem coords_half : ∀ t : Fin cfg0.N, (grid0.coords t 0).val = t.val / 4 := by decide +kernel
theorem coords_chunk : ∀ t : Fin cfg0.N, (grid0.coords t 1).val = t.val % 4 := by decide +kernel
/-- The blocks' places in their arrays. -/
theorem index_in : ∀ t : Fin cfg0.N, win0_0.index t = ![t.val / 4, 0, t.val % 4, 0] := by decide +kernel
theorem index_out : ∀ t : Fin cfg0.N, win0_1.index t = ![t.val / 4, 0, 0] := by decide +kernel
theorem index_norm_in : ∀ t : Fin cfg1.N, win1_0.index t = ![0, 0, 0] := by decide +kernel
theorem index_norm_out : ∀ t : Fin cfg1.N, win1_1.index t = ![0, 0] := by decide +kernel

theorem points : cfg0.N = 8 := N_0

/-- The point of half `g` and chunk `k`. -/
abbrev point (g : Fin 2) (k : Fin 4) : Fin cfg0.N :=
  ⟨4 * g.val + k.val, by have := points; have := g.isLt; have := k.isLt; omega⟩

/-- Image `b` of half `g`. -/
abbrev image (g : Fin 2) (b : Fin 8) : Fin 16 := ⟨g.val * 8 + b.val, by have := g.isLt; have := b.isLt; omega⟩

/-- Row `r` of chunk `k`. -/
abbrev rowAt (k : Fin 4) (r : Fin 128) : Fin 512 := ⟨r.val + k.val * 128, by have := k.isLt; have := r.isLt; omega⟩

theorem chunkNo_point (g : Fin 2) (k : Fin 4) : chunkNo (grid0.coords (point g k)) = k.val := by
  have e := coords_chunk (point g k)
  have hk := k.isLt
  rw [show chunkNo (grid0.coords (point g k)) = (4 * g.val + k.val) % 4 from e]
  omega

/-- The input block at a point: the point's half's images, the point's chunk's rows. -/
theorem block_apply (c : Dev nD) (g : Fin 2) (k : Fin 4) (b : Fin 8) (q : Fin 3) (r : Fin 128) (w : Fin 512) :
    iblk0 (F := Ideal) V c 0 (point g k) (ix4 b q r w) = V c main_arg0 (ix4 (image g b) q (rowAt k r) w) := by
  have hk := k.isLt
  unfold iblk0
  blk_ext [index_in] <;> omega

variable (c : Dev nD)

/-- What a point adds in lane `l` of image `b` of its half. -/
abbrev partAt (g : Fin 2) (k : Fin 4) (b : Fin 8) (l : ℕ) : EReal :=
  part (iblk0 (F := Ideal) V c 0 (point g k)) (grid0.coords (point g k)) b l

/-- A half's block after its first chunk, -/
theorem held_0 (g : Fin 2) (b : Fin 8) (l : Fin 384) :
    held (F := Ideal) V c (point g 0).val (point g 0).isLt (ix3 0 b l) = partAt V c g 0 b l.val := by
  rw [held_first V c (point g 0) (show (4 * g.val + 0) % 4 = 0 by omega), chunk_apply]

/-- after its second, -/
theorem held_1 (g : Fin 2) (b : Fin 8) (l : Fin 384) :
    held (F := Ideal) V c (point g 1).val (point g 1).isLt (ix3 0 b l) = partAt V c g 0 b l.val + partAt V c g 1 b l.val := by
  rw [held_later V c (point g 1) (show ¬(4 * g.val + 1) % 4 = 0 by omega) (show ¬(4 * g.val + 1) % 4 = 3 by omega), added_apply]
  exact congrArg (· + _) (held_0 V c g b l)

/-- after its third, -/
theorem held_2 (g : Fin 2) (b : Fin 8) (l : Fin 384) :
    held (F := Ideal) V c (point g 2).val (point g 2).isLt (ix3 0 b l)
      = partAt V c g 0 b l.val + partAt V c g 1 b l.val + partAt V c g 2 b l.val := by
  rw [held_later V c (point g 2) (show ¬(4 * g.val + 2) % 4 = 0 by omega) (show ¬(4 * g.val + 2) % 4 = 3 by omega), added_apply]
  exact congrArg (· + _) (held_1 V c g b l)

/-- What the four chunks add together. -/
def total (g : Fin 2) (b : Fin 8) (l : ℕ) : EReal := ∑ k : Fin 4, partAt V c g k b l

/-- and after its last: the chunks' total over the number of the ring's pixels. -/
theorem held_3 (g : Fin 2) (b : Fin 8) (l : Fin 384) (hl : l.val < 257) :
    held (F := Ideal) V c (point g 3).val (point g 3).isLt (ix3 0 b l)
      = Ideal.div (total V c g b l.val) (((ringSize l.val : ℕ) : ℝ) : EReal) := by
  rw [held_last V c (point g 3) (show (4 * g.val + 3) % 4 = 3 by omega), divided _ _ _ hl, added_apply, total, Fin.sum_univ_four]
  exact congrArg (fun y => Ideal.div (y + _) _) (held_2 V c g b l)

/-- An infinite pixel makes some ring's total infinite. -/
theorem total_infinite (n : Fin 16) (q : Fin 3) (h w : Fin 512) (hi : Infinite (V c main_arg0 (ix4 n q h w))) :
    ∃ l : Fin 257, Infinite (total V c ⟨n.val / 8, by have := n.isLt; omega⟩ ⟨n.val % 8, by omega⟩ l.val) := by
  have hn := n.isLt
  have hh := h.isLt
  have e : (ix4 n q h w : S16x3x512x512.Idx) = ix4 (image ⟨n.val / 8, by omega⟩ ⟨n.val % 8, by omega⟩) q
      (rowAt ⟨h.val / 128, by omega⟩ ⟨h.val % 128, by omega⟩) w := by
    congr 1
    · exact Fin.ext (by show n.val = n.val / 8 * 8 + n.val % 8; omega)
    · exact Fin.ext (by show h.val = h.val % 128 + h.val / 128 * 128; omega)
  rw [e, ← block_apply V c] at hi
  obtain ⟨l, hl⟩ := part_infinite _ (grid0.coords (point ⟨n.val / 8, by omega⟩ ⟨h.val / 128, by omega⟩)) _ _ _
    (weigh_infinite (fun q => iblk0 (F := Ideal) V c 0 (point ⟨n.val / 8, by omega⟩ ⟨h.val / 128, by omega⟩)
      (ix4 ⟨n.val % 8, by omega⟩ q ⟨h.val % 128, by omega⟩ w)) q hi)
  exact ⟨l, sum _ _ hl⟩

variable (X : Fin 16 → Fin 3 → Fin 512 → Fin 512 → ℝ)

/-- The magnitudes of row `h`'s pixels of ring `l`, summed. -/
def rowSum (n : Fin 16) (l : ℕ) (h : Fin 512) : ℝ :=
  ∑ w : Fin 512, if ring h.val w.val = l then mag (X n 0 h w) (X n 1 h w) (X n 2 h w) else 0

/-- The magnitudes of image `n`'s pixels of ring `l`, summed. -/
def ringSum (n : Fin 16) (l : ℕ) : ℝ := ∑ h, rowSum X n l h

/-- The image's rows, chunk by chunk. -/
theorem rows_by_chunk (f : Fin 512 → ℝ) : ∑ h, f h = ∑ k : Fin 4, ∑ r : Fin 128, f (rowAt k r) := by
  rw [← Fintype.sum_prod_type' (fun (k : Fin 4) (r : Fin 128) => f (rowAt k r))]
  refine (Fintype.sum_equiv (finProdFinEquiv (m := 4) (n := 128)) _ _ fun p => ?_).symm
  exact congrArg f (Fin.ext (by show p.2.val + p.1.val * 128 = p.2.val + 128 * p.1.val; omega))

/-- On real images the four chunks' total is the ring's sum. -/
theorem total_real (hX : ∀ n k h w, V c main_arg0 (ix4 n k h w) = ((X n k h w : ℝ) : EReal)) (g : Fin 2) (b : Fin 8) (l : ℕ) :
    total V c g b l = ((ringSum X (image g b) l : ℝ) : EReal) := by
  unfold total ringSum
  rw [rows_by_chunk, ← coe_sum]
  refine Finset.sum_congr rfl fun k _ => ?_
  refine (part_real _ (fun b q r w => X (image g b) q (rowAt k r) w) _
    (fun b q r w => (block_apply V c g k b q r w).trans (hX _ _ _ _)) b l).trans ?_
  unfold chunkSum rowSum
  simp only [chunkNo_point]

/-- The intermediate array: half `g`'s block as its last point leaves it. -/
theorem sums_eq : (dat0 (F := Ideal) V c).arrAt 1 cfg0.N = fun j : S2x8x384.Idx =>
    held (F := Ideal) V c (4 * (j 0).val + 3) (by have h : (j 0).val < 2 := (j 0).isLt; have := points; omega) (ix3 0 (j 1) (j 2)) := by
  refine (dat0 (F := Ideal) V c).arrAt_eq_of_covers 1 _ (by decide +kernel) fun t hf y => ?_
  have h3 : t.val % 4 = 3 := (flush0_1 t).mp hf
  blk_simp [index_out]
  rw [after0_1]
  have e : ∀ (n : ℕ) (hn : n < cfg0.N) (z : S1x8x384.Idx), n = t.val → z = y → held (F := Ideal) V c t.val t.isLt y = held V c n hn z := by
    rintro n hn z rfl rfl; rfl
  refine e _ _ _ ?_ ?_
  · omega
  · blk_ext [index_out]

/-- The result array: the payload of the whole intermediate array. -/
theorem norm_eq : (dat1 (F := Ideal) V c).arrAt 1 cfg1.N = k1_pay1 (V c main_v0) := by
  refine (dat1 (F := Ideal) V c).arrAt_eq_of_covers 1 _ (by decide +kernel) fun t hf y => ?_
  blk_simp
  rw [after1_1]
  have e : iblk1 (F := Ideal) V c 0 t = V c main_v0 := by
    funext z
    unfold iblk1
    blk_ext [index_norm_in]
  rw [e]
  generalize k1_pay1 (F := Ideal) (V c main_v0) = G
  blk_ext [index_norm_out]

end Cert.KernelIdeal.Sums

end
-- ==== Proof.Value.Kernel.lean ====
/-
  The kernel's result: every ring's mean, less the smallest mean of the batch, over the batch's range.
-/
module

public import proofs.«01_k».proof.Proof.Value.Array

@[expose] public section

set_option maxRecDepth 16384

noncomputable section

namespace Cert.KernelIdeal.Result

open Cert.KernelIdeal Cert.KernelIdeal.Gen Cert.KernelIdeal.Run Cert.KernelIdeal.Sums Cert.Rings Cert.Reals Cert.Profile Cert.Infinite
open Idealize.ShloMosaic Idealize.ShloMosaic.TcCoe

variable (μ : Fin 16 × Fin 257 → EReal)

/-- The normalising payload of an array whose ring lanes hold the means. -/
theorem normalised (v : Vec Ideal S2x8x384 .f32)
    (hv : ∀ (n : Fin 16) (l : Fin 384) (h : l.val < 257),
      v (ix3 ⟨n.val / 8, by have := n.isLt; omega⟩ ⟨n.val % 8, by omega⟩ l) = μ (n, ⟨l.val, h⟩))
    (n : Fin 16) (l : Fin 257) : k1_pay1 (F := Ideal) v (ix2 n l) = profile μ n l := by
  have hc : ∀ k : Fin 384, IntOp.cmpi .slt (BitVec.ofNat 32 k.val) 257#32 = BitVec.ofBool (decide (k.val < 257)) := by
    decide +kernel
  have hin : ∀ (e : EReal) (p : Fin 16) (k : Fin 384) (h : k.val < 257),
      Scalar.select (IntOp.cmpi .slt (BitVec.ofNat 32 k.val) 257#32)
        (v (ix3 ⟨p.val / 8, by have := p.isLt; omega⟩ ⟨p.val % 8, by omega⟩ k)) e = μ (p, ⟨k.val, h⟩) := by
    intro e p k h
    rw [hc, decide_eq_true h, hv p k h]; rfl
  have hout : ∀ (e : EReal) (p : Fin 16) (k : Fin 384), ¬ k.val < 257 →
      Scalar.select (IntOp.cmpi .slt (BitVec.ofNat 32 k.val) 257#32)
        (v (ix3 ⟨p.val / 8, by have := p.isLt; omega⟩ ⟨p.val % 8, by omega⟩ k)) e = e := by
    intro e p k h
    rw [hc, decide_eq_false h]; rfl
  pointwise [k1_pay1]
  rw [ofBits_inf, ofBits_neg_inf,
    fold_min_pad _ (μ) (fun p k h => hin ⊤ p k h) (fun p k h => hout ⊤ p k h),
    fold_max_pad _ (μ) (fun p k h => hin ⊥ p k h) (fun p k h => hout ⊥ p k h),
    hv n ⟨l.val, by have := l.isLt; omega⟩ l.isLt]
  rfl

variable (m : (ℓ : Loc nD τ sig) → Buf (Elt Ideal) ℓ) (ρ : Dev nD → PrngReg)

/-- The kernel's mean of a ring in an image: what the four chunks add, over the number of the ring's pixels. -/
def means (c : Dev nD) (p : Fin 16 × Fin 257) : EReal :=
  Ideal.div (total (V0 m ρ) c ⟨p.1.val / 8, by have := p.1.isLt; omega⟩ ⟨p.1.val % 8, by omega⟩ p.2.val)
    (((ringSize p.2.val : ℕ) : ℝ) : EReal)

/-- The kernel's result array, at an index: the normalised profile of its means. -/
theorem result_apply (c : Dev nD) (n : Fin 16) (l : Fin 257) :
    result (F := Ideal) m ρ c (ix2 n l) = profile (means m ρ c) n l := by
  unfold result
  rw [norm_eq, V1_sums, sums_eq]
  exact normalised (means m ρ c) _ (fun n l h => held_3 (V0 m ρ) c _ _ l h) n l

/-- On real images the means are the rings' sums over their sizes. -/
theorem means_real (c : Dev nD) (X : Fin 16 → Fin 3 → Fin 512 → Fin 512 → ℝ)
    (hX : ∀ n k h w, m ((c.tc : Thread nD τ).loc main_arg0) (ix4 n k h w) = ((X n k h w : ℝ) : EReal)) (p : Fin 16 × Fin 257) :
    means m ρ c p = Ideal.div ((ringSum X p.1 p.2.val : ℝ) : EReal) (((ringSize p.2.val : ℕ) : ℝ) : EReal) := by
  unfold means
  rw [total_real (V0 m ρ) c X hX]
  rw [show image ⟨p.1.val / 8, by have := p.1.isLt; omega⟩ ⟨p.1.val % 8, by omega⟩ = p.1 from
    Fin.ext (by show p.1.val / 8 * 8 + p.1.val % 8 = p.1.val; omega)]

/-- With an infinite pixel some mean is infinite. -/
theorem means_infinite (c : Dev nD) (n : Fin 16) (q : Fin 3) (h w : Fin 512)
    (hi : Infinite (m ((c.tc : Thread nD τ).loc main_arg0) (ix4 n q h w))) : ∃ p, Infinite (means m ρ c p) := by
  obtain ⟨l, hl⟩ := total_infinite (V0 m ρ) c n q h w hi
  exact ⟨(n, l), div_pos (by exact_mod_cast ringSize_pos l.val) hl⟩

end Cert.KernelIdeal.Result

end
-- ==== Proof.Value.Reference.lean ====
/-
  The reference's result: the normalised profile of its own means, which with the rings' masks are the kernel's.
-/
module

public import proofs.«01_k».proof.Proof.Value.Kernel
public import proofs.«01_k».proof.Proof.Gen.ReferenceIdeal.Run

@[expose] public section

set_option maxRecDepth 16384

noncomputable section

namespace Cert.ReferenceIdeal.Reading

open Cert.ReferenceIdeal Cert.ReferenceIdeal.Gen Cert.ReferenceIdeal.Value Cert.Rings Cert.Reals Cert.Profile Cert.Infinite
open Idealize.ShloMosaic Idealize.ShloMosaic.TcCoe

/-- The masked sum of the weighted channels over a plane. -/
def masked (x : FVec Ideal S16x3x512x512 .f32) (y : FVec Ideal S257x512x512 .f32) (n : Fin 16) (l : Fin 257) : EReal :=
  ∑ h : Fin 512, ∑ w : Fin 512,
    Ideal.ofBits .f32 0x41A00000#32 * (Ideal.ofBits .f32 0x3E991687#32 * x (ix4 n 0 h w)
      + Ideal.ofBits .f32 0x3F1645A2#32 * x (ix4 n 1 h w) + Ideal.ofBits .f32 0x3DE978D5#32 * x (ix4 n 2 h w)) * y (ix3 l h w)

section sums

variable (x : FVec Ideal S16x3x512x512 .f32) (y : FVec Ideal S257x512x512 .f32)
  (hy : ∀ (l : Fin 257) (h w : Fin 512), y (ix3 l h w) = (((if ring h.val w.val = l.val then 1 else 0 : ℝ)) : EReal))
include hy

/-- On real images it is the ring's sum of magnitudes. -/
theorem masked_real (X : Fin 16 → Fin 3 → Fin 512 → Fin 512 → ℝ)
    (hx : ∀ n k h w, x (ix4 n k h w) = ((X n k h w : ℝ) : EReal)) (n : Fin 16) (l : Fin 257) :
    masked x y n l = ((Cert.KernelIdeal.Sums.ringSum X n l.val : ℝ) : EReal) := by
  unfold masked
  simp only [ofBits_20, ofBits_red, ofBits_green, ofBits_blue, hx, hy, ← EReal.coe_mul, ← EReal.coe_add, coe_sum]
  unfold Cert.KernelIdeal.Sums.ringSum Cert.KernelIdeal.Sums.rowSum Cert.KernelIdeal.Block.mag
  refine congrArg _ (Finset.sum_congr rfl fun h _ => Finset.sum_congr rfl fun w _ => ?_)
  split_ifs <;> ring

/-- An infinite pixel makes its ring's masked sum infinite. -/
theorem masked_infinite (n : Fin 16) (q : Fin 3) (h w : Fin 512) (hi : Infinite (x (ix4 n q h w))) :
    ∃ l : Fin 257, Infinite (masked x y n l) := by
  refine ⟨⟨ring h.val w.val, by have := off_le h; have := off_le w; unfold ring; omega⟩, sum _ h (sum _ w ?_)⟩
  rw [hy, if_pos rfl, EReal.coe_one, mul_one, ofBits_20, ofBits_red, ofBits_green, ofBits_blue]
  refine pos_mul (by norm_num) ?_
  match q, hi with
  | 0, hi => exact add_left (add_left (pos_mul (by norm_num) hi) _) _
  | 1, hi => exact add_left (add_right (pos_mul (by norm_num) hi) _) _
  | 2, hi => exact add_right (pos_mul (by norm_num) hi) _

end sums

variable (m : (ℓ : Loc nD τ sig) → Buf (Elt Ideal) ℓ)

/-- The reference's mean of a ring in an image. -/
def means (c : Dev nD) (p : Fin 16 × Fin 257) : EReal :=
  Ideal.div (masked (m ((c.tc : Thread nD τ).loc main_arg0)) (m ((c.tc : Thread nD τ).loc main_arg1)) p.1 p.2)
    (m ((c.tc : Thread nD τ).loc main_arg2) (ix1 p.2))

/-- The reference's result array, at an index: the normalised profile of its means. -/
theorem result_apply (c : Dev nD) (n : Fin 16) (l : Fin 257) :
    res_main_v26 (F := Ideal) m c (ix2 n l) = profile (means m c) n l := by
  pointwise [res_main_v26]
  rw [ofBits_inf, ofBits_neg_inf]
  rfl

variable (c : Dev nD)
  (hy : ∀ (l : Fin 257) (h w : Fin 512), m ((c.tc : Thread nD τ).loc main_arg1) (ix3 l h w)
    = (((if ring h.val w.val = l.val then 1 else 0 : ℝ)) : EReal))
  (hz : ∀ l : Fin 257, m ((c.tc : Thread nD τ).loc main_arg2) (ix1 l) = (((ringSize l.val : ℕ) : ℝ) : EReal))
include hy hz

/-- On real images the means are the rings' sums over their sizes. -/
theorem means_real (X : Fin 16 → Fin 3 → Fin 512 → Fin 512 → ℝ)
    (hx : ∀ n k h w, m ((c.tc : Thread nD τ).loc main_arg0) (ix4 n k h w) = ((X n k h w : ℝ) : EReal)) (p : Fin 16 × Fin 257) :
    means m c p = Ideal.div ((Cert.KernelIdeal.Sums.ringSum X p.1 p.2.val : ℝ) : EReal) (((ringSize p.2.val : ℕ) : ℝ) : EReal) := by
  unfold means
  rw [hz, masked_real _ _ hy X hx]

/-- With an infinite pixel some mean is infinite. -/
theorem means_infinite (n : Fin 16) (q : Fin 3) (h w : Fin 512)
    (hi : Infinite (m ((c.tc : Thread nD τ).loc main_arg0) (ix4 n q h w))) : ∃ p, Infinite (means m c p) := by
  obtain ⟨l, hl⟩ := masked_infinite _ _ hy n q h w hi
  refine ⟨(n, l), ?_⟩
  unfold means
  rw [hz]
  exact div_pos (by exact_mod_cast ringSize_pos l.val) hl

end Cert.ReferenceIdeal.Reading

end
-- ==== Proof.Value.Setup.lean ====
/-
  The precondition read: the masks are the rings' indicators, and the mask sums are the rings' sizes.
-/
module

public import proofs.«01_k».proof.Proof.Value.Reals
public import proofs.«01_k».proof.Proof.Gen.Pre_setup
public import Idealize.ShloMosaic.Lib.Pointwise

@[expose] public section

set_option maxRecDepth 16384

noncomputable section

namespace Cert.Pre_setup.Reading

open Cert.Pre_setup Cert.Pre_setup.Gen Cert.Rings Cert.Reals
open Idealize.ShloMosaic Idealize.ShloMosaic.TcCoe

/-- The smaller of two natural numbers' words. -/
theorem minsi_nat {a b : ℕ} (ha : a < 2 ^ 31) (hb : b < 2 ^ 31) :
    IntOp.minsi (BitVec.ofNat 32 a) (BitVec.ofNat 32 b) = BitVec.ofNat 32 (min a b) := by
  have e : ∀ n : ℕ, n < 2 ^ 31 → (BitVec.ofNat 32 n).toInt = n := fun n hn => by
    rw [BitVec.toInt_eq_toNat_of_lt (by rw [BitVec.toNat_ofNat, Nat.mod_eq_of_lt] <;> omega), BitVec.toNat_ofNat,
      Nat.mod_eq_of_lt (by omega)]
  unfold IntOp.minsi
  rw [BitVec.slt_eq_decide, e a ha, e b hb]
  by_cases h : (a : ℤ) < b
  · rw [decide_eq_true h, min_eq_left (by omega)]; rfl
  · rw [decide_eq_false h, min_eq_right (by omega)]; rfl

/-- The difference of two natural numbers' words, the first no smaller. -/
theorem subi_nat {a b : ℕ} (hb : b < 2 ^ 32) (h : b ≤ a) : IntOp.subi (BitVec.ofNat 32 a) (BitVec.ofNat 32 b) = BitVec.ofNat 32 (a - b) := by
  show BitVec.ofNat 32 a - BitVec.ofNat 32 b = _
  rw [BitVec.ofNat_sub_ofNat_of_le a b hb h]

/-- Row or column 0 is outside the inner 511. -/
theorem inner_word : ∀ h : Fin 512, IntOp.cmpi .sge (IntOp.subi (BitVec.ofNat 32 h.val) 1#32) 0#32
    = BitVec.ofBool (decide (1 ≤ h.val)) := by
  decide +kernel

/-- The masks' ring index is the pixel's ring. -/
theorem plane_word (h w : Fin 512) :
    Scalar.select
      (IntOp.andi (IntOp.cmpi .sge (IntOp.subi (BitVec.ofNat 32 h.val) 1#32) 0#32)
        (IntOp.cmpi .sge (IntOp.subi (BitVec.ofNat 32 w.val) 1#32) 0#32))
      (IntOp.subi 255#32
        (IntOp.minsi
          (IntOp.minsi (IntOp.subi (BitVec.ofNat 32 h.val) 1#32) (IntOp.subi (BitVec.ofNat 32 w.val) 1#32))
          (IntOp.minsi (IntOp.subi 510#32 (IntOp.subi (BitVec.ofNat 32 h.val) 1#32))
            (IntOp.subi 510#32 (IntOp.subi (BitVec.ofNat 32 w.val) 1#32)))))
      256#32
      = BitVec.ofNat 32 (ring h.val w.val) := by
  have hh := h.isLt
  have hw := w.isLt
  rw [inner_word, inner_word]
  by_cases h1 : 1 ≤ h.val
  · by_cases w1 : 1 ≤ w.val
    · rw [decide_eq_true h1, decide_eq_true w1, show IntOp.subi (BitVec.ofNat 32 h.val) 1#32 = BitVec.ofNat 32 (h.val - 1) from subi_nat (by omega) h1,
        show IntOp.subi (BitVec.ofNat 32 w.val) 1#32 = BitVec.ofNat 32 (w.val - 1) from subi_nat (by omega) w1,
        show IntOp.subi 510#32 (BitVec.ofNat 32 (h.val - 1)) = BitVec.ofNat 32 (510 - (h.val - 1)) from subi_nat (by omega) (by omega),
        show IntOp.subi 510#32 (BitVec.ofNat 32 (w.val - 1)) = BitVec.ofNat 32 (510 - (w.val - 1)) from subi_nat (by omega) (by omega),
        minsi_nat (by omega) (by omega), minsi_nat (by omega) (by omega), minsi_nat (by omega) (by omega)]
      refine (show _ = IntOp.subi 255#32 _ from rfl).trans ?_
      refine (show _ = BitVec.ofNat 32 (255 - min (min (h.val - 1) (w.val - 1)) (min (510 - (h.val - 1)) (510 - (w.val - 1))))
        from subi_nat (by omega) (by omega)).trans ?_
      unfold ring off
      exact congrArg _ (by omega)
    · rw [decide_eq_false w1]
      have e : ring h.val w.val = 256 := by unfold ring off; omega
      rw [e, decide_eq_true h1]; rfl
  · rw [decide_eq_false h1]
    have e : ring h.val w.val = 256 := by unfold ring off; omega
    rw [e]
    by_cases w1 : 1 ≤ w.val
    · rw [decide_eq_true w1]; rfl
    · rw [decide_eq_false w1]; rfl

theorem of_bit {p : Prop} [Decidable p] (h : BitVec.ofBool (decide p) = 1#1) : p := by
  by_contra hp
  rw [decide_eq_false hp] at h
  exact absurd h (by decide)

variable (x : FVec Ideal S16x3x512x512 .f32) (y : FVec Ideal S257x512x512 .f32) (z : FVec Ideal S257 .f32)

/-- The masks are the rings' indicators. -/
theorem mask_eq (h : (fn (F := Ideal) x y z).1 = fun _ => 1#1) (l : Fin 257) (r w : Fin 512) :
    y (ix3 l r w) = (((if ring r.val w.val = l.val then 1 else 0 : ℝ)) : EReal) := by
  have e := congrFun h (ix3 l r w)
  pointwise [fn, fn_part1, fn_where, fn_where_0, id] at e
  have hr : ring r.val w.val < 2 ^ 32 := by
    have := off_le r; have := off_le w; unfold ring; omega
  rw [plane_word, lane_word hr (by have := l.isLt; omega)] at e
  have e := of_bit e
  rw [e]
  by_cases h : ring r.val w.val = l.val
  · rw [if_pos h, decide_eq_true h]; rfl
  · rw [if_neg h, decide_eq_false h]; rfl

/-- The mask sums are the rings' sizes. -/
theorem mask_n_eq (h : (fn (F := Ideal) x y z).1 = fun _ => 1#1) (h' : (fn (F := Ideal) x y z).2 = fun _ => 1#1)
    (l : Fin 257) : z (ix1 l) = (((ringSize l.val : ℕ) : ℝ) : EReal) := by
  have e := congrFun h' (ix1 l)
  pointwise [fn, fn_part1] at e
  have e := of_bit e
  rw [e]
  have hs : (∑ r, ∑ w, y (ix3 l r w)) = (((ringSize l.val : ℕ) : ℝ) : EReal) := by
    simp only [mask_eq x y z h, coe_sum]
    rw [← pixels l]
    push_cast
    rfl
  rw [hs]
  refine max_eq_left (ofBits_floor_le.trans (EReal.coe_le_coe_iff.mpr ?_))
  have : 1 ≤ ringSize l.val := ringSize_pos _
  exact_mod_cast this

end Cert.Pre_setup.Reading

end
-- ==== Proof.Value.Equation.lean ====
/-
  The equation: under the precondition, and from equal arguments, the kernel's result array is the reference's. On real
  images the two have the same means; an infinite pixel makes both results zero throughout.
-/
module

public import proofs.«01_k».proof.Defs
public import proofs.«01_k».proof.Proof.Value.Kernel
public import proofs.«01_k».proof.Proof.Value.Reference
public import proofs.«01_k».proof.Proof.Value.Setup

@[expose] public section

set_option maxRecDepth 16384

noncomputable section

namespace Cert.Equation

open Idealize.ShloMosaic Idealize.ShloMosaic.TcCoe Cert.Pre_setup.Reading Cert.Infinite Cert.Profile

/-- On a device whose arguments satisfy the precondition and agree, both programs end with the same array. -/
theorem results_eq (m : (ℓ : Loc Cert.KernelIdeal.nD Cert.KernelIdeal.τ Cert.KernelIdeal.sig) → Buf (Elt Ideal) ℓ)
    (ρ : Dev Cert.KernelIdeal.nD → PrngReg)
    (m' : (ℓ : Loc Cert.ReferenceIdeal.nD Cert.ReferenceIdeal.τ Cert.ReferenceIdeal.sig) → Buf (Elt Ideal) ℓ)
    (hm : Pre_KernelIdeal_setup (hPre_setup := Cert.Pre_setup.Gen.facts) m) (c : Dev Cert.KernelIdeal.nD)
    (h0 : m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1)
      = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2)
      = m ((c.tc : Thread Cert.KernelIdeal.nD Cert.KernelIdeal.τ).loc Cert.KernelIdeal.main_arg2)) :
    Cert.ReferenceIdeal.Value.res_main_v26 (F := Ideal) m' c = Cert.KernelIdeal.Run.result (F := Ideal) m ρ c := by
  obtain ⟨hy', hz'⟩ := hm c
  have hy := fun l h w => (congrFun h1 (ix3 l h w)).trans (mask_eq _ _ _ hy' l h w)
  have hz := fun l => (congrFun h2 (ix1 l)).trans (mask_n_eq _ _ _ hy' hz' l)
  funext j
  have hj : j = (ix2 (j 0) (j 1) : Cert.KernelIdeal.S16x257.Idx) := by
    funext i; match i with | 0 => rfl | 1 => rfl
  rw [hj]
  refine (Cert.ReferenceIdeal.Reading.result_apply m' c (j 0) (j 1)).trans
    (Eq.trans ?_ (Cert.KernelIdeal.Result.result_apply m ρ c (j 0) (j 1)).symm)
  by_cases hr : ∀ n q h w, ∃ v : ℝ, m ((c.tc : Thread Cert.KernelIdeal.nD Cert.KernelIdeal.τ).loc Cert.KernelIdeal.main_arg0)
      (ix4 n q h w) = (v : EReal)
  · choose X hX using hr
    refine congrArg (fun μ => profile μ (j 0) (j 1)) (funext fun p => ?_)
    exact (Cert.ReferenceIdeal.Reading.means_real m' c hy hz X (fun n q h w => (congrFun h0 _).trans (hX n q h w)) p).trans
      (Cert.KernelIdeal.Result.means_real m ρ c X hX p).symm
  · simp only [not_forall] at hr
    obtain ⟨n, q, h, w, hr⟩ := hr
    have hi := (real_or_infinite _).resolve_left hr
    obtain ⟨p, hp⟩ := Cert.KernelIdeal.Result.means_infinite m ρ c n q h w hi
    obtain ⟨p', hp'⟩ := Cert.ReferenceIdeal.Reading.means_infinite m' c hy hz n q h w (by rw [h0]; exact hi)
    exact (profile_zero _ p' hp' _ _).trans (profile_zero _ p hp _ _).symm

end Cert.Equation

end
-- ==== Proof.lean ====
/- The certificate: the three programs run and leave their arguments, the kernel's named constants stand for its
   literals, and over the extended reals the kernel's result is the reference's. -/
module

public import proofs.«01_k».proof.Defs
public import proofs.«01_k».proof.Proof.KernelRun.Run
public import proofs.«01_k».proof.Proof.KernelIdealRun.Run
public import proofs.«01_k».proof.Proof.Value.Equation
public import Idealize.ShloMosaic.Lib.Quiescent

@[expose] public section

set_option maxRecDepth 16384

noncomputable section

namespace Cert.Proof

open Idealize.ShloMosaic Idealize.SL.Sem

/-- The kernel runs, leaves its arguments as they were, and ends with every semaphore at zero. -/
theorem kernel_frame : quiescent_Kernel (hKernel := Cert.Kernel.Gen.facts) :=
  fun m ρ _ => Cert.Kernel.Run.frame m ρ

/-- So does the idealized kernel. -/
theorem kernel_ideal_frame : quiescent_KernelIdeal (hKernelIdeal := Cert.KernelIdeal.Gen.facts) :=
  fun m ρ _ => Cert.KernelIdeal.Run.frame m ρ

/-- So does the reference: it has no semaphore at all. -/
theorem reference_frame : quiescent_ReferenceIdeal (hReferenceIdeal := Cert.ReferenceIdeal.Gen.facts) :=
  fun m ρ _ => (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- Each named constant stands for the literal it replaces. -/
theorem constants : preserves_Kernel_KernelIdeal :=
  ⟨IdealRules.named_const.statement Cert.KernelIdeal.κ "red" .f32 _ _ rfl,
    IdealRules.named_const.statement Cert.KernelIdeal.κ "green" .f32 _ _ rfl,
    IdealRules.named_const.statement Cert.KernelIdeal.κ "blue" .f32 _ _ rfl⟩

/-- Over the extended reals the two programs end with equal results, wherever the precondition holds. -/
theorem equal_results : algebraic_KernelIdeal_ReferenceIdeal_pre_setup (hKernelIdeal := Cert.KernelIdeal.Gen.facts)
    (hReferenceIdeal := Cert.ReferenceIdeal.Gen.facts) (hPre_setup := Cert.Pre_setup.Gen.facts) := by
  intro m ρ m' ρ' hm hargs
  refine ⟨fun c => Cert.KernelIdeal.Run.result (F := Ideal) m ρ c, ?_, ?_⟩
  · exact (θ_run Cert.KernelIdeal.defs _ _).mono (fun r h => h.1) (Cert.KernelIdeal.Run.run (F := Ideal) m ρ)
  · refine (θ_run Cert.ReferenceIdeal.defs _ _).mono (fun r h c => ⟨?_, (h c).2⟩)
      (Cert.ReferenceIdeal.Value.run (F := Ideal) m' ρ')
    exact (h c).1.trans (Cert.Equation.results_eq m ρ m' hm c (hargs c).1 (hargs c).2.1 (hargs c).2.2)

/-- The whole certificate. -/
theorem claim : Cert.Claim :=
  ⟨Cert.Kernel.Gen.facts, Cert.KernelIdeal.Gen.facts, Cert.ReferenceIdeal.Gen.facts, Cert.Pre_setup.Gen.facts,
    kernel_frame, kernel_ideal_frame, fun m ρ _ => kernel_ideal_frame m ρ trivial,
    reference_frame, fun m ρ _ => reference_frame m ρ trivial, constants, equal_results⟩

end Cert.Proof

end
